-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S32 : Shape := ⟨1, ![32]⟩
abbrev S_ : Shape := ⟨0, ![]⟩
abbrev S1 : Shape := ⟨1, ![1]⟩
abbrev S32x1 : Shape := ⟨2, ![32, 1]⟩
abbrev S1x32 : Shape := ⟨2, ![1, 32]⟩
abbrev S2x32 : Shape := ⟨2, ![2, 32]⟩
abbrev S2x256x2048 : Shape := ⟨3, ![2, 256, 2048]⟩
abbrev S2 : Shape := ⟨1, ![2]⟩
abbrev S1x1 : Shape := ⟨2, ![1, 1]⟩
abbrev S256x256 : Shape := ⟨2, ![256, 256]⟩
abbrev S256x2048 : Shape := ⟨2, ![256, 2048]⟩
abbrev S1x256x2048 : Shape := ⟨3, ![1, 256, 2048]⟩

abbrev nBuf : Space → Nat
  | .hbm => 92
  | .vmem => 8
  | .smem => 1
  | _ => 0

abbrev bufTy : (tb : Table) → Fin (tcTables nBuf tb) → BufTy
  | .hbm, ⟨0, _⟩ => ⟨S8192x256, .bf16⟩
  | .hbm, ⟨1, _⟩ => ⟨S256x4096, .bf16⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S32, .i32⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S_, .i1⟩
  | .hbm, ⟨38, _⟩ => ⟨S32, .i1⟩
  | .hbm, ⟨39, _⟩ => ⟨S32, .i1⟩
  | .hbm, ⟨40, _⟩ => ⟨S32, .i1⟩
  | .hbm, ⟨41, _⟩ => ⟨S32, .i32⟩
  | .hbm, ⟨42, _⟩ => ⟨S32, .i32⟩
  | .hbm, ⟨43, _⟩ => ⟨S32, .i32⟩
  | .hbm, ⟨44, _⟩ => ⟨S_, .i32⟩
  | .hbm, ⟨45, _⟩ => ⟨S32, .i32⟩
  | .hbm, ⟨46, _⟩ => ⟨S32, .i1⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S32x1, .i32⟩
  | .hbm, ⟨52, _⟩ => ⟨S32, .i32⟩
  | .hbm, ⟨53, _⟩ => ⟨S_, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S32, .i32⟩
  | .hbm, ⟨64, _⟩ => ⟨S32, .i32⟩
  | .hbm, ⟨65, _⟩ => ⟨S_, .i32⟩
  | .hbm, ⟨66, _⟩ => ⟨S32, .i32⟩
  | .hbm, ⟨67, _⟩ => ⟨S32, .i1⟩
  | .hbm, ⟨68, _⟩ => ⟨S_, .i32⟩
  | .hbm, ⟨69, _⟩ => ⟨S32, .i32⟩
  | .hbm, ⟨70, _⟩ => ⟨S32, .i1⟩
  | .hbm, ⟨71, _⟩ => ⟨S_, .i32⟩
  | .hbm, ⟨72, _⟩ => ⟨S_, .i1⟩
  | .hbm, ⟨73, _⟩ => ⟨S32, .i1⟩
  | .hbm, ⟨74, _⟩ => ⟨S32, .i1⟩
  | .hbm, ⟨75, _⟩ => ⟨S32, .i1⟩
  | .hbm, ⟨76, _⟩ => ⟨S32, .i32⟩
  | .hbm, ⟨77, _⟩ => ⟨S32, .i32⟩
  | .hbm, ⟨78, _⟩ => ⟨S32, .i32⟩
  | .hbm, ⟨79, _⟩ => ⟨S_, .i32⟩
  | .hbm, ⟨80, _⟩ => ⟨S32, .i32⟩
  | .hbm, ⟨81, _⟩ => ⟨S32, .i1⟩
  | .hbm, ⟨82, _⟩ => ⟨S_, .i32⟩
  | .hbm, ⟨83, _⟩ => ⟨S32, .i32⟩
  | .hbm, ⟨84, _⟩ => ⟨S32, .i32⟩
  | .hbm, ⟨85, _⟩ => ⟨S32, .i32⟩
  | .hbm, ⟨86, _⟩ => ⟨S32x1, .i32⟩
  | .hbm, ⟨87, _⟩ => ⟨S32, .i32⟩
  | .hbm, ⟨88, _⟩ => ⟨S1x32, .i32⟩
  | .hbm, ⟨89, _⟩ => ⟨S1x32, .i32⟩
  | .hbm, ⟨90, _⟩ => ⟨S2x32, .i32⟩
  | .hbm, ⟨91, _⟩ => ⟨S256x4096, .f32⟩
  | .local _ .vmem, ⟨0, _⟩ => ⟨S8192x256, .bf16⟩
  | .local _ .vmem, ⟨1, _⟩ => ⟨S256x4096, .bf16⟩
  | .local _ .vmem, ⟨2, _⟩ => ⟨S256x4096, .f32⟩
  | .local _ .vmem, ⟨3, _⟩ => ⟨S256x4096, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .bf16⟩
  | .local _ .smem, ⟨0, _⟩ => ⟨S2x32, .i32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 3 12 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v14 : Ref sig .tc := ⟨.hbm, 43, rfl⟩
abbrev main_c_7 : Ref sig .tc := ⟨.hbm, 44, rfl⟩
abbrev main_v15 : Ref sig .tc := ⟨.hbm, 45, rfl⟩
abbrev main_v16 : Ref sig .tc := ⟨.hbm, 46, rfl⟩
abbrev main_c_8 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_9 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_10 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v25 : Ref sig .tc := ⟨.hbm, 78, rfl⟩
abbrev main_c_11 : Ref sig .tc := ⟨.hbm, 79, rfl⟩
abbrev main_v26 : Ref sig .tc := ⟨.hbm, 80, rfl⟩
abbrev main_v27 : Ref sig .tc := ⟨.hbm, 81, rfl⟩
abbrev main_c_12 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_2 : BitVec 32 := 1#32
  let v3 : BitVec 32 := Scalar.muli v0 c1_i32_2
  let v4 : BitVec 32 := Scalar.addi c0_i32 v3
  v4.toNat

def k0_dev2 (v1 : BitVec 32) : Nat :=
  let c0_i32_5 : BitVec 32 := 0#32
  let c1_i32_4 : BitVec 32 := 1#32
  let v5 : BitVec 32 := Scalar.muli v1 c1_i32_4
  let v6 : BitVec 32 := Scalar.addi c0_i32_5 v5
  v6.toNat

def k0_off1 (v12 : BitVec 32) : Fin 2 → Nat :=
  let c256_i32 : BitVec 32 := 256#32
  let v13 : BitVec 32 := Scalar.muli v12 c256_i32
  let v14 : Index := Scalar.indexCast v13
  let c0_12 : Index := 0#32
  ![v14.toNat, 0]

def k0_chk3 (v12 : BitVec 32) : Prop :=
  (∀ a, (k0_off1 v12) a + S256x256.size a ≤ S8192x256.size a)
theorem k0_off1_inb : ∀ (v12 : BitVec 32) (k0_hw3 : k0_chk3 v12), ∀ a, (k0_off1 v12) a + S256x256.size a ≤ S8192x256.size a := fun v12 k0_hw3 => k0_hw3

def k0_off2 (v23 : BitVec 32) : Fin 2 → Nat :=
  let c256_i32_20 : BitVec 32 := 256#32
  let v24 : BitVec 32 := Scalar.muli v23 c256_i32_20
  let v25 : Index := Scalar.indexCast v24
  let c0_21 : Index := 0#32
  ![v25.toNat, 0]

def k0_chk4 (v23 : BitVec 32) : Prop :=
  (∀ a, (k0_off2 v23) a + S256x256.size a ≤ S8192x256.size a)
theorem k0_off2_inb : ∀ (v23 : BitVec 32) (k0_hw4 : k0_chk4 v23), ∀ a, (k0_off2 v23) a + S256x256.size a ≤ S8192x256.size a := fun v23 k0_hw4 => k0_hw4

def k0_dev3 (v1 : BitVec 32) : Nat :=
  let c0_i32_32 : BitVec 32 := 0#32
  let c1_i32_31 : BitVec 32 := 1#32
  let v34 : BitVec 32 := Scalar.muli v1 c1_i32_31
  let v35 : BitVec 32 := Scalar.addi c0_i32_32 v34
  v35.toNat
def k0_dev4 (v0 : BitVec 32) : Nat :=
  let c0_i32_42 : BitVec 32 := 0#32
  let c1_i32_41 : BitVec 32 := 1#32
  let v44 : BitVec 32 := Scalar.muli v0 c1_i32_41
  let v45 : BitVec 32 := Scalar.addi c0_i32_42 v44
  v45.toNat
def k0_off3 (v54 : BitVec 32) : Fin 2 → Nat :=
  let c256_i32_49 : BitVec 32 := 256#32
  let v55 : BitVec 32 := Scalar.muli v54 c256_i32_49
  let v56 : Index := Scalar.indexCast v55
  let c0_50 : Index := 0#32
  ![v56.toNat, 0]

def k0_chk5 (v54 : BitVec 32) : Prop :=
  (∀ a, (k0_off3 v54) a + S256x256.size a ≤ S8192x256.size a)
theorem k0_off3_inb : ∀ (v54 : BitVec 32) (k0_hw5 : k0_chk5 v54), ∀ a, (k0_off3 v54) a + S256x256.size a ≤ S8192x256.size a := fun v54 k0_hw5 => k0_hw5

def k0_off4 (v61 : BitVec 32) : Fin 2 → Nat :=
  let c256_i32_56 : BitVec 32 := 256#32
  let v62 : BitVec 32 := Scalar.muli v61 c256_i32_56
  let v63 : Index := Scalar.indexCast v62
  let c0_57 : Index := 0#32
  ![v63.toNat, 0]

def k0_chk6 (v61 : BitVec 32) : Prop :=
  (∀ a, (k0_off4 v61) a + S256x256.size a ≤ S8192x256.size a)
theorem k0_off4_inb : ∀ (v61 : BitVec 32) (k0_hw6 : k0_chk6 v61), ∀ a, (k0_off4 v61) a + S256x256.size a ≤ S8192x256.size a := fun v61 k0_hw6 => k0_hw6

def k0_dev5 (v0 : BitVec 32) : Nat :=
  let c0_i32_101 : BitVec 32 := 0#32
  let c1_i32_100 : BitVec 32 := 1#32
  let v96 : BitVec 32 := Scalar.muli v0 c1_i32_100
  let v97 : BitVec 32 := Scalar.addi c0_i32_101 v96
  v97.toNat
def k0_dev6 (v1 : BitVec 32) : Nat :=
  let c0_i32_104 : BitVec 32 := 0#32
  let c1_i32_103 : BitVec 32 := 1#32
  let v98 : BitVec 32 := Scalar.muli v1 c1_i32_103
  let v99 : BitVec 32 := Scalar.addi c0_i32_104 v98
  v99.toNat
def k0_dev7 (v1 : BitVec 32) : Nat :=
  let c0_i32_122 : BitVec 32 := 0#32
  let c1_i32_121 : BitVec 32 := 1#32
  let v116 : BitVec 32 := Scalar.muli v1 c1_i32_121
  let v117 : BitVec 32 := Scalar.addi c0_i32_122 v116
  v117.toNat
def k0_dev8 (v0 : BitVec 32) : Nat :=
  let c0_i32_132 : BitVec 32 := 0#32
  let c1_i32_131 : BitVec 32 := 1#32
  let v126 : BitVec 32 := Scalar.muli v0 c1_i32_131
  let v127 : BitVec 32 := Scalar.addi c0_i32_132 v126
  v127.toNat
def k0_off5 (v136 : BitVec 32) : Fin 2 → Nat :=
  let c256_i32_138 : BitVec 32 := 256#32
  let v137 : BitVec 32 := Scalar.muli v136 c256_i32_138
  let v138 : Index := Scalar.indexCast v137
  let c0_139 : Index := 0#32
  ![v138.toNat, 0]

def k0_chk7 (v136 : BitVec 32) : Prop :=
  (∀ a, (k0_off5 v136) a + S256x256.size a ≤ S8192x256.size a)
theorem k0_off5_inb : ∀ (v136 : BitVec 32) (k0_hw7 : k0_chk7 v136), ∀ a, (k0_off5 v136) a + S256x256.size a ≤ S8192x256.size a := fun v136 k0_hw7 => k0_hw7

def k0_off6 (v143 : BitVec 32) : Fin 2 → Nat :=
  let c256_i32_145 : BitVec 32 := 256#32
  let v144 : BitVec 32 := Scalar.muli v143 c256_i32_145
  let v145 : Index := Scalar.indexCast v144
  let c0_146 : Index := 0#32
  ![v145.toNat, 0]

def k0_chk8 (v143 : BitVec 32) : Prop :=
  (∀ a, (k0_off6 v143) a + S256x256.size a ≤ S8192x256.size a)
theorem k0_off6_inb : ∀ (v143 : BitVec 32) (k0_hw8 : k0_chk8 v143), ∀ a, (k0_off6 v143) a + S256x256.size a ≤ S8192x256.size a := fun v143 k0_hw8 => k0_hw8

def k0_dev9 (v0 : BitVec 32) : Nat :=
  let c0_i32_190 : BitVec 32 := 0#32
  let c1_i32_189 : BitVec 32 := 1#32
  let v178 : BitVec 32 := Scalar.muli v0 c1_i32_189
  let v179 : BitVec 32 := Scalar.addi c0_i32_190 v178
  v179.toNat
def k0_dev10 (v1 : BitVec 32) : Nat :=
  let c0_i32_193 : BitVec 32 := 0#32
  let c1_i32_192 : BitVec 32 := 1#32
  let v180 : BitVec 32 := Scalar.muli v1 c1_i32_192
  let v181 : BitVec 32 := Scalar.addi c0_i32_193 v180
  v181.toNat
def k0_dev11 (v1 : BitVec 32) : Nat :=
  let c0_i32_215 : BitVec 32 := 0#32
  let c1_i32_214 : BitVec 32 := 1#32
  let v198 : BitVec 32 := Scalar.muli v1 c1_i32_214
  let v199 : BitVec 32 := Scalar.addi c0_i32_215 v198
  v199.toNat
def k0_dev12 (v0 : BitVec 32) : Nat :=
  let c0_i32_225 : BitVec 32 := 0#32
  let c1_i32_224 : BitVec 32 := 1#32
  let v208 : BitVec 32 := Scalar.muli v0 c1_i32_224
  let v209 : BitVec 32 := Scalar.addi c0_i32_225 v208
  v209.toNat
def k0_off7 (v218 : BitVec 32) : Fin 2 → Nat :=
  let c256_i32_231 : BitVec 32 := 256#32
  let v219 : BitVec 32 := Scalar.muli v218 c256_i32_231
  let v220 : Index := Scalar.indexCast v219
  let c0_232 : Index := 0#32
  ![v220.toNat, 0]

def k0_chk9 (v218 : BitVec 32) : Prop :=
  (∀ a, (k0_off7 v218) a + S256x256.size a ≤ S8192x256.size a)
theorem k0_off7_inb : ∀ (v218 : BitVec 32) (k0_hw9 : k0_chk9 v218), ∀ a, (k0_off7 v218) a + S256x256.size a ≤ S8192x256.size a := fun v218 k0_hw9 => k0_hw9

def k0_off8 (v225 : BitVec 32) : Fin 2 → Nat :=
  let c256_i32_238 : BitVec 32 := 256#32
  let v226 : BitVec 32 := Scalar.muli v225 c256_i32_238
  let v227 : Index := Scalar.indexCast v226
  let c0_239 : Index := 0#32
  ![v227.toNat, 0]

def k0_chk10 (v225 : BitVec 32) : Prop :=
  (∀ a, (k0_off8 v225) a + S256x256.size a ≤ S8192x256.size a)
theorem k0_off8_inb : ∀ (v225 : BitVec 32) (k0_hw10 : k0_chk10 v225), ∀ a, (k0_off8 v225) a + S256x256.size a ≤ S8192x256.size a := fun v225 k0_hw10 => k0_hw10

def k0_dev13 (v0 : BitVec 32) : Nat :=
  let c0_i32_283 : BitVec 32 := 0#32
  let c1_i32_282 : BitVec 32 := 1#32
  let v260 : BitVec 32 := Scalar.muli v0 c1_i32_282
  let v261 : BitVec 32 := Scalar.addi c0_i32_283 v260
  v261.toNat
def k0_dev14 (v1 : BitVec 32) : Nat :=
  let c0_i32_286 : BitVec 32 := 0#32
  let c1_i32_285 : BitVec 32 := 1#32
  let v262 : BitVec 32 := Scalar.muli v1 c1_i32_285
  let v263 : BitVec 32 := Scalar.addi c0_i32_286 v262
  v263.toNat
def k0_dev15 (v1 : BitVec 32) : Nat :=
  let c0_i32_308 : BitVec 32 := 0#32
  let c1_i32_307 : BitVec 32 := 1#32
  let v280 : BitVec 32 := Scalar.muli v1 c1_i32_307
  let v281 : BitVec 32 := Scalar.addi c0_i32_308 v280
  v281.toNat
def k0_dev16 (v0 : BitVec 32) : Nat :=
  let c0_i32_318 : BitVec 32 := 0#32
  let c1_i32_317 : BitVec 32 := 1#32
  let v290 : BitVec 32 := Scalar.muli v0 c1_i32_317
  let v291 : BitVec 32 := Scalar.addi c0_i32_318 v290
  v291.toNat
def k0_off9 (v300 : BitVec 32) : Fin 2 → Nat :=
  let c256_i32_324 : BitVec 32 := 256#32
  let v301 : BitVec 32 := Scalar.muli v300 c256_i32_324
  let v302 : Index := Scalar.indexCast v301
  let c0_325 : Index := 0#32
  ![v302.toNat, 0]

def k0_chk11 (v300 : BitVec 32) : Prop :=
  (∀ a, (k0_off9 v300) a + S256x256.size a ≤ S8192x256.size a)
theorem k0_off9_inb : ∀ (v300 : BitVec 32) (k0_hw11 : k0_chk11 v300), ∀ a, (k0_off9 v300) a + S256x256.size a ≤ S8192x256.size a := fun v300 k0_hw11 => k0_hw11

def k0_off10 (v307 : BitVec 32) : Fin 2 → Nat :=
  let c256_i32_331 : BitVec 32 := 256#32
  let v308 : BitVec 32 := Scalar.muli v307 c256_i32_331
  let v309 : Index := Scalar.indexCast v308
  let c0_332 : Index := 0#32
  ![v309.toNat, 0]

def k0_chk12 (v307 : BitVec 32) : Prop :=
  (∀ a, (k0_off10 v307) a + S256x256.size a ≤ S8192x256.size a)
theorem k0_off10_inb : ∀ (v307 : BitVec 32) (k0_hw12 : k0_chk12 v307), ∀ a, (k0_off10 v307) a + S256x256.size a ≤ S8192x256.size a := fun v307 k0_hw12 => k0_hw12

def k0_dev17 (v0 : BitVec 32) : Nat :=
  let c0_i32_376 : BitVec 32 := 0#32
  let c1_i32_375 : BitVec 32 := 1#32
  let v342 : BitVec 32 := Scalar.muli v0 c1_i32_375
  let v343 : BitVec 32 := Scalar.addi c0_i32_376 v342
  v343.toNat
def k0_dev18 (v1 : BitVec 32) : Nat :=
  let c0_i32_379 : BitVec 32 := 0#32
  let c1_i32_378 : BitVec 32 := 1#32
  let v344 : BitVec 32 := Scalar.muli v1 c1_i32_378
  let v345 : BitVec 32 := Scalar.addi c0_i32_379 v344
  v345.toNat
def k0_dev19 (v1 : BitVec 32) : Nat :=
  let c0_i32_401 : BitVec 32 := 0#32
  let c1_i32_400 : BitVec 32 := 1#32
  let v362 : BitVec 32 := Scalar.muli v1 c1_i32_400
  let v363 : BitVec 32 := Scalar.addi c0_i32_401 v362
  v363.toNat
def k0_dev20 (v0 : BitVec 32) : Nat :=
  let c0_i32_411 : BitVec 32 := 0#32
  let c1_i32_410 : BitVec 32 := 1#32
  let v372 : BitVec 32 := Scalar.muli v0 c1_i32_410
  let v373 : BitVec 32 := Scalar.addi c0_i32_411 v372
  v373.toNat
def k0_off11 (v382 : BitVec 32) : Fin 2 → Nat :=
  let c256_i32_417 : BitVec 32 := 256#32
  let v383 : BitVec 32 := Scalar.muli v382 c256_i32_417
  let v384 : Index := Scalar.indexCast v383
  let c0_418 : Index := 0#32
  ![v384.toNat, 0]

def k0_chk13 (v382 : BitVec 32) : Prop :=
  (∀ a, (k0_off11 v382) a + S256x256.size a ≤ S8192x256.size a)
theorem k0_off11_inb : ∀ (v382 : BitVec 32) (k0_hw13 : k0_chk13 v382), ∀ a, (k0_off11 v382) a + S256x256.size a ≤ S8192x256.size a := fun v382 k0_hw13 => k0_hw13

def k0_off12 (v389 : BitVec 32) : Fin 2 → Nat :=
  let c256_i32_424 : BitVec 32 := 256#32
  let v390 : BitVec 32 := Scalar.muli v389 c256_i32_424
  let v391 : Index := Scalar.indexCast v390
  let c0_425 : Index := 0#32
  ![v391.toNat, 0]

def k0_chk14 (v389 : BitVec 32) : Prop :=
  (∀ a, (k0_off12 v389) a + S256x256.size a ≤ S8192x256.size a)
theorem k0_off12_inb : ∀ (v389 : BitVec 32) (k0_hw14 : k0_chk14 v389), ∀ a, (k0_off12 v389) a + S256x256.size a ≤ S8192x256.size a := fun v389 k0_hw14 => k0_hw14

def k0_dev21 (v0 : BitVec 32) : Nat :=
  let c0_i32_469 : BitVec 32 := 0#32
  let c1_i32_468 : BitVec 32 := 1#32
  let v424 : BitVec 32 := Scalar.muli v0 c1_i32_468
  let v425 : BitVec 32 := Scalar.addi c0_i32_469 v424
  v425.toNat
def k0_dev22 (v1 : BitVec 32) : Nat :=
  let c0_i32_472 : BitVec 32 := 0#32
  let c1_i32_471 : BitVec 32 := 1#32
  let v426 : BitVec 32 := Scalar.muli v1 c1_i32_471
  let v427 : BitVec 32 := Scalar.addi c0_i32_472 v426
  v427.toNat
def k0_dev23 (v1 : BitVec 32) : Nat :=
  let c0_i32_494 : BitVec 32 := 0#32
  let c1_i32_493 : BitVec 32 := 1#32
  let v444 : BitVec 32 := Scalar.muli v1 c1_i32_493
  let v445 : BitVec 32 := Scalar.addi c0_i32_494 v444
  v445.toNat
def k0_dev24 (v0 : BitVec 32) : Nat :=
  let c0_i32_504 : BitVec 32 := 0#32
  let c1_i32_503 : BitVec 32 := 1#32
  let v454 : BitVec 32 := Scalar.muli v0 c1_i32_503
  let v455 : BitVec 32 := Scalar.addi c0_i32_504 v454
  v455.toNat
def k0_off13 (v464 : BitVec 32) : Fin 2 → Nat :=
  let c256_i32_510 : BitVec 32 := 256#32
  let v465 : BitVec 32 := Scalar.muli v464 c256_i32_510
  let v466 : Index := Scalar.indexCast v465
  let c0_511 : Index := 0#32
  ![v466.toNat, 0]

def k0_chk15 (v464 : BitVec 32) : Prop :=
  (∀ a, (k0_off13 v464) a + S256x256.size a ≤ S8192x256.size a)
theorem k0_off13_inb : ∀ (v464 : BitVec 32) (k0_hw15 : k0_chk15 v464), ∀ a, (k0_off13 v464) a + S256x256.size a ≤ S8192x256.size a := fun v464 k0_hw15 => k0_hw15

def k0_off14 (v471 : BitVec 32) : Fin 2 → Nat :=
  let c256_i32_517 : BitVec 32 := 256#32
  let v472 : BitVec 32 := Scalar.muli v471 c256_i32_517
  let v473 : Index := Scalar.indexCast v472
  let c0_518 : Index := 0#32
  ![v473.toNat, 0]

def k0_chk16 (v471 : BitVec 32) : Prop :=
  (∀ a, (k0_off14 v471) a + S256x256.size a ≤ S8192x256.size a)
theorem k0_off14_inb : ∀ (v471 : BitVec 32) (k0_hw16 : k0_chk16 v471), ∀ a, (k0_off14 v471) a + S256x256.size a ≤ S8192x256.size a := fun v471 k0_hw16 => k0_hw16

def k0_dev25 (v0 : BitVec 32) : Nat :=
  let c0_i32_562 : BitVec 32 := 0#32
  let c1_i32_561 : BitVec 32 := 1#32
  let v506 : BitVec 32 := Scalar.muli v0 c1_i32_561
  let v507 : BitVec 32 := Scalar.addi c0_i32_562 v506
  v507.toNat
def k0_dev26 (v1 : BitVec 32) : Nat :=
  let c0_i32_565 : BitVec 32 := 0#32
  let c1_i32_564 : BitVec 32 := 1#32
  let v508 : BitVec 32 := Scalar.muli v1 c1_i32_564
  let v509 : BitVec 32 := Scalar.addi c0_i32_565 v508
  v509.toNat
def k0_dev27 (v1 : BitVec 32) : Nat :=
  let c0_i32_587 : BitVec 32 := 0#32
  let c1_i32_586 : BitVec 32 := 1#32
  let v526 : BitVec 32 := Scalar.muli v1 c1_i32_586
  let v527 : BitVec 32 := Scalar.addi c0_i32_587 v526
  v527.toNat
def k0_dev28 (v0 : BitVec 32) : Nat :=
  let c0_i32_597 : BitVec 32 := 0#32
  let c1_i32_596 : BitVec 32 := 1#32
  let v536 : BitVec 32 := Scalar.muli v0 c1_i32_596
  let v537 : BitVec 32 := Scalar.addi c0_i32_597 v536
  v537.toNat
def k0_off15 (v546 : BitVec 32) : Fin 2 → Nat :=
  let c256_i32_603 : BitVec 32 := 256#32
  let v547 : BitVec 32 := Scalar.muli v546 c256_i32_603
  let v548 : Index := Scalar.indexCast v547
  let c0_604 : Index := 0#32
  ![v548.toNat, 0]

def k0_chk17 (v546 : BitVec 32) : Prop :=
  (∀ a, (k0_off15 v546) a + S256x256.size a ≤ S8192x256.size a)
theorem k0_off15_inb : ∀ (v546 : BitVec 32) (k0_hw17 : k0_chk17 v546), ∀ a, (k0_off15 v546) a + S256x256.size a ≤ S8192x256.size a := fun v546 k0_hw17 => k0_hw17

def k0_off16 (v553 : BitVec 32) : Fin 2 → Nat :=
  let c256_i32_610 : BitVec 32 := 256#32
  let v554 : BitVec 32 := Scalar.muli v553 c256_i32_610
  let v555 : Index := Scalar.indexCast v554
  let c0_611 : Index := 0#32
  ![v555.toNat, 0]

def k0_chk18 (v553 : BitVec 32) : Prop :=
  (∀ a, (k0_off16 v553) a + S256x256.size a ≤ S8192x256.size a)
theorem k0_off16_inb : ∀ (v553 : BitVec 32) (k0_hw18 : k0_chk18 v553), ∀ a, (k0_off16 v553) a + S256x256.size a ≤ S8192x256.size a := fun v553 k0_hw18 => k0_hw18

def k0_dev29 (v0 : BitVec 32) : Nat :=
  let c0_i32_655 : BitVec 32 := 0#32
  let c1_i32_654 : BitVec 32 := 1#32
  let v588 : BitVec 32 := Scalar.muli v0 c1_i32_654
  let v589 : BitVec 32 := Scalar.addi c0_i32_655 v588
  v589.toNat
def k0_dev30 (v1 : BitVec 32) : Nat :=
  let c0_i32_658 : BitVec 32 := 0#32
  let c1_i32_657 : BitVec 32 := 1#32
  let v590 : BitVec 32 := Scalar.muli v1 c1_i32_657
  let v591 : BitVec 32 := Scalar.addi c0_i32_658 v590
  v591.toNat
def k0_dev31 (v1 : BitVec 32) : Nat :=
  let c0_i32_680 : BitVec 32 := 0#32
  let c1_i32_679 : BitVec 32 := 1#32
  let v608 : BitVec 32 := Scalar.muli v1 c1_i32_679
  let v609 : BitVec 32 := Scalar.addi c0_i32_680 v608
  v609.toNat
def k0_dev32 (v0 : BitVec 32) : Nat :=
  let c0_i32_690 : BitVec 32 := 0#32
  let c1_i32_689 : BitVec 32 := 1#32
  let v618 : BitVec 32 := Scalar.muli v0 c1_i32_689
  let v619 : BitVec 32 := Scalar.addi c0_i32_690 v618
  v619.toNat
def k0_off17 (v628 : BitVec 32) : Fin 2 → Nat :=
  let c256_i32_696 : BitVec 32 := 256#32
  let v629 : BitVec 32 := Scalar.muli v628 c256_i32_696
  let v630 : Index := Scalar.indexCast v629
  let c0_697 : Index := 0#32
  ![v630.toNat, 0]

def k0_chk19 (v628 : BitVec 32) : Prop :=
  (∀ a, (k0_off17 v628) a + S256x256.size a ≤ S8192x256.size a)
theorem k0_off17_inb : ∀ (v628 : BitVec 32) (k0_hw19 : k0_chk19 v628), ∀ a, (k0_off17 v628) a + S256x256.size a ≤ S8192x256.size a := fun v628 k0_hw19 => k0_hw19

def k0_off18 (v635 : BitVec 32) : Fin 2 → Nat :=
  let c256_i32_703 : BitVec 32 := 256#32
  let v636 : BitVec 32 := Scalar.muli v635 c256_i32_703
  let v637 : Index := Scalar.indexCast v636
  let c0_704 : Index := 0#32
  ![v637.toNat, 0]

def k0_chk20 (v635 : BitVec 32) : Prop :=
  (∀ a, (k0_off18 v635) a + S256x256.size a ≤ S8192x256.size a)
theorem k0_off18_inb : ∀ (v635 : BitVec 32) (k0_hw20 : k0_chk20 v635), ∀ a, (k0_off18 v635) a + S256x256.size a ≤ S8192x256.size a := fun v635 k0_hw20 => k0_hw20

def k0_dev33 (v0 : BitVec 32) : Nat :=
  let c0_i32_748 : BitVec 32 := 0#32
  let c1_i32_747 : BitVec 32 := 1#32
  let v670 : BitVec 32 := Scalar.muli v0 c1_i32_747
  let v671 : BitVec 32 := Scalar.addi c0_i32_748 v670
  v671.toNat
def k0_dev34 (v1 : BitVec 32) : Nat :=
  let c0_i32_751 : BitVec 32 := 0#32
  let c1_i32_750 : BitVec 32 := 1#32
  let v672 : BitVec 32 := Scalar.muli v1 c1_i32_750
  let v673 : BitVec 32 := Scalar.addi c0_i32_751 v672
  v673.toNat
def k0_dev35 (v1 : BitVec 32) : Nat :=
  let c0_i32_773 : BitVec 32 := 0#32
  let c1_i32_772 : BitVec 32 := 1#32
  let v690 : BitVec 32 := Scalar.muli v1 c1_i32_772
  let v691 : BitVec 32 := Scalar.addi c0_i32_773 v690
  v691.toNat
def k0_dev36 (v0 : BitVec 32) : Nat :=
  let c0_i32_783 : BitVec 32 := 0#32
  let c1_i32_782 : BitVec 32 := 1#32
  let v700 : BitVec 32 := Scalar.muli v0 c1_i32_782
  let v701 : BitVec 32 := Scalar.addi c0_i32_783 v700
  v701.toNat
def k0_off19 (v710 : BitVec 32) : Fin 2 → Nat :=
  let c256_i32_789 : BitVec 32 := 256#32
  let v711 : BitVec 32 := Scalar.muli v710 c256_i32_789
  let v712 : Index := Scalar.indexCast v711
  let c0_790 : Index := 0#32
  ![v712.toNat, 0]

def k0_chk21 (v710 : BitVec 32) : Prop :=
  (∀ a, (k0_off19 v710) a + S256x256.size a ≤ S8192x256.size a)
theorem k0_off19_inb : ∀ (v710 : BitVec 32) (k0_hw21 : k0_chk21 v710), ∀ a, (k0_off19 v710) a + S256x256.size a ≤ S8192x256.size a := fun v710 k0_hw21 => k0_hw21

def k0_off20 (v717 : BitVec 32) : Fin 2 → Nat :=
  let c256_i32_796 : BitVec 32 := 256#32
  let v718 : BitVec 32 := Scalar.muli v717 c256_i32_796
  let v719 : Index := Scalar.indexCast v718
  let c0_797 : Index := 0#32
  ![v719.toNat, 0]

def k0_chk22 (v717 : BitVec 32) : Prop :=
  (∀ a, (k0_off20 v717) a + S256x256.size a ≤ S8192x256.size a)
theorem k0_off20_inb : ∀ (v717 : BitVec 32) (k0_hw22 : k0_chk22 v717), ∀ a, (k0_off20 v717) a + S256x256.size a ≤ S8192x256.size a := fun v717 k0_hw22 => k0_hw22

def k0_dev37 (v0 : BitVec 32) : Nat :=
  let c0_i32_841 : BitVec 32 := 0#32
  let c1_i32_840 : BitVec 32 := 1#32
  let v752 : BitVec 32 := Scalar.muli v0 c1_i32_840
  let v753 : BitVec 32 := Scalar.addi c0_i32_841 v752
  v753.toNat
def k0_dev38 (v1 : BitVec 32) : Nat :=
  let c0_i32_844 : BitVec 32 := 0#32
  let c1_i32_843 : BitVec 32 := 1#32
  let v754 : BitVec 32 := Scalar.muli v1 c1_i32_843
  let v755 : BitVec 32 := Scalar.addi c0_i32_844 v754
  v755.toNat
def k0_dev39 (v1 : BitVec 32) : Nat :=
  let c0_i32_866 : BitVec 32 := 0#32
  let c1_i32_865 : BitVec 32 := 1#32
  let v772 : BitVec 32 := Scalar.muli v1 c1_i32_865
  let v773 : BitVec 32 := Scalar.addi c0_i32_866 v772
  v773.toNat
def k0_dev40 (v0 : BitVec 32) : Nat :=
  let c0_i32_876 : BitVec 32 := 0#32
  let c1_i32_875 : BitVec 32 := 1#32
  let v782 : BitVec 32 := Scalar.muli v0 c1_i32_875
  let v783 : BitVec 32 := Scalar.addi c0_i32_876 v782
  v783.toNat
def k0_off21 (v792 : BitVec 32) : Fin 2 → Nat :=
  let c256_i32_882 : BitVec 32 := 256#32
  let v793 : BitVec 32 := Scalar.muli v792 c256_i32_882
  let v794 : Index := Scalar.indexCast v793
  let c0_883 : Index := 0#32
  ![v794.toNat, 0]

def k0_chk23 (v792 : BitVec 32) : Prop :=
  (∀ a, (k0_off21 v792) a + S256x256.size a ≤ S8192x256.size a)
theorem k0_off21_inb : ∀ (v792 : BitVec 32) (k0_hw23 : k0_chk23 v792), ∀ a, (k0_off21 v792) a + S256x256.size a ≤ S8192x256.size a := fun v792 k0_hw23 => k0_hw23

def k0_off22 (v799 : BitVec 32) : Fin 2 → Nat :=
  let c256_i32_889 : BitVec 32 := 256#32
  let v800 : BitVec 32 := Scalar.muli v799 c256_i32_889
  let v801 : Index := Scalar.indexCast v800
  let c0_890 : Index := 0#32
  ![v801.toNat, 0]

def k0_chk24 (v799 : BitVec 32) : Prop :=
  (∀ a, (k0_off22 v799) a + S256x256.size a ≤ S8192x256.size a)
theorem k0_off22_inb : ∀ (v799 : BitVec 32) (k0_hw24 : k0_chk24 v799), ∀ a, (k0_off22 v799) a + S256x256.size a ≤ S8192x256.size a := fun v799 k0_hw24 => k0_hw24

def k0_dev41 (v0 : BitVec 32) : Nat :=
  let c0_i32_934 : BitVec 32 := 0#32
  let c1_i32_933 : BitVec 32 := 1#32
  let v834 : BitVec 32 := Scalar.muli v0 c1_i32_933
  let v835 : BitVec 32 := Scalar.addi c0_i32_934 v834
  v835.toNat
def k0_dev42 (v1 : BitVec 32) : Nat :=
  let c0_i32_937 : BitVec 32 := 0#32
  let c1_i32_936 : BitVec 32 := 1#32
  let v836 : BitVec 32 := Scalar.muli v1 c1_i32_936
  let v837 : BitVec 32 := Scalar.addi c0_i32_937 v836
  v837.toNat
def k0_dev43 (v1 : BitVec 32) : Nat :=
  let c0_i32_959 : BitVec 32 := 0#32
  let c1_i32_958 : BitVec 32 := 1#32
  let v854 : BitVec 32 := Scalar.muli v1 c1_i32_958
  let v855 : BitVec 32 := Scalar.addi c0_i32_959 v854
  v855.toNat
def k0_dev44 (v0 : BitVec 32) : Nat :=
  let c0_i32_969 : BitVec 32 := 0#32
  let c1_i32_968 : BitVec 32 := 1#32
  let v864 : BitVec 32 := Scalar.muli v0 c1_i32_968
  let v865 : BitVec 32 := Scalar.addi c0_i32_969 v864
  v865.toNat
def k0_off23 (v874 : BitVec 32) : Fin 2 → Nat :=
  let c256_i32_975 : BitVec 32 := 256#32
  let v875 : BitVec 32 := Scalar.muli v874 c256_i32_975
  let v876 : Index := Scalar.indexCast v875
  let c0_976 : Index := 0#32
  ![v876.toNat, 0]

def k0_chk25 (v874 : BitVec 32) : Prop :=
  (∀ a, (k0_off23 v874) a + S256x256.size a ≤ S8192x256.size a)
theorem k0_off23_inb : ∀ (v874 : BitVec 32) (k0_hw25 : k0_chk25 v874), ∀ a, (k0_off23 v874) a + S256x256.size a ≤ S8192x256.size a := fun v874 k0_hw25 => k0_hw25

def k0_off24 (v881 : BitVec 32) : Fin 2 → Nat :=
  let c256_i32_982 : BitVec 32 := 256#32
  let v882 : BitVec 32 := Scalar.muli v881 c256_i32_982
  let v883 : Index := Scalar.indexCast v882
  let c0_983 : Index := 0#32
  ![v883.toNat, 0]

def k0_chk26 (v881 : BitVec 32) : Prop :=
  (∀ a, (k0_off24 v881) a + S256x256.size a ≤ S8192x256.size a)
theorem k0_off24_inb : ∀ (v881 : BitVec 32) (k0_hw26 : k0_chk26 v881), ∀ a, (k0_off24 v881) a + S256x256.size a ≤ S8192x256.size a := fun v881 k0_hw26 => k0_hw26

def k0_dev45 (v0 : BitVec 32) : Nat :=
  let c0_i32_1027 : BitVec 32 := 0#32
  let c1_i32_1026 : BitVec 32 := 1#32
  let v916 : BitVec 32 := Scalar.muli v0 c1_i32_1026
  let v917 : BitVec 32 := Scalar.addi c0_i32_1027 v916
  v917.toNat
def k0_dev46 (v1 : BitVec 32) : Nat :=
  let c0_i32_1030 : BitVec 32 := 0#32
  let c1_i32_1029 : BitVec 32 := 1#32
  let v918 : BitVec 32 := Scalar.muli v1 c1_i32_1029
  let v919 : BitVec 32 := Scalar.addi c0_i32_1030 v918
  v919.toNat
def k0_dev47 (v1 : BitVec 32) : Nat :=
  let c0_i32_1052 : BitVec 32 := 0#32
  let c1_i32_1051 : BitVec 32 := 1#32
  let v936 : BitVec 32 := Scalar.muli v1 c1_i32_1051
  let v937 : BitVec 32 := Scalar.addi c0_i32_1052 v936
  v937.toNat
def k0_dev48 (v0 : BitVec 32) : Nat :=
  let c0_i32_1062 : BitVec 32 := 0#32
  let c1_i32_1061 : BitVec 32 := 1#32
  let v946 : BitVec 32 := Scalar.muli v0 c1_i32_1061
  let v947 : BitVec 32 := Scalar.addi c0_i32_1062 v946
  v947.toNat
def k0_off25 (v956 : BitVec 32) : Fin 2 → Nat :=
  let c256_i32_1068 : BitVec 32 := 256#32
  let v957 : BitVec 32 := Scalar.muli v956 c256_i32_1068
  let v958 : Index := Scalar.indexCast v957
  let c0_1069 : Index := 0#32
  ![v958.toNat, 0]

def k0_chk27 (v956 : BitVec 32) : Prop :=
  (∀ a, (k0_off25 v956) a + S256x256.size a ≤ S8192x256.size a)
theorem k0_off25_inb : ∀ (v956 : BitVec 32) (k0_hw27 : k0_chk27 v956), ∀ a, (k0_off25 v956) a + S256x256.size a ≤ S8192x256.size a := fun v956 k0_hw27 => k0_hw27

def k0_off26 (v963 : BitVec 32) : Fin 2 → Nat :=
  let c256_i32_1075 : BitVec 32 := 256#32
  let v964 : BitVec 32 := Scalar.muli v963 c256_i32_1075
  let v965 : Index := Scalar.indexCast v964
  let c0_1076 : Index := 0#32
  ![v965.toNat, 0]

def k0_chk28 (v963 : BitVec 32) : Prop :=
  (∀ a, (k0_off26 v963) a + S256x256.size a ≤ S8192x256.size a)
theorem k0_off26_inb : ∀ (v963 : BitVec 32) (k0_hw28 : k0_chk28 v963), ∀ a, (k0_off26 v963) a + S256x256.size a ≤ S8192x256.size a := fun v963 k0_hw28 => k0_hw28

def k0_dev49 (v0 : BitVec 32) : Nat :=
  let c0_i32_1120 : BitVec 32 := 0#32
  let c1_i32_1119 : BitVec 32 := 1#32
  let v998 : BitVec 32 := Scalar.muli v0 c1_i32_1119
  let v999 : BitVec 32 := Scalar.addi c0_i32_1120 v998
  v999.toNat
def k0_dev50 (v1 : BitVec 32) : Nat :=
  let c0_i32_1123 : BitVec 32 := 0#32
  let c1_i32_1122 : BitVec 32 := 1#32
  let v1000 : BitVec 32 := Scalar.muli v1 c1_i32_1122
  let v1001 : BitVec 32 := Scalar.addi c0_i32_1123 v1000
  v1001.toNat
def k0_dev51 (v1 : BitVec 32) : Nat :=
  let c0_i32_1145 : BitVec 32 := 0#32
  let c1_i32_1144 : BitVec 32 := 1#32
  let v1018 : BitVec 32 := Scalar.muli v1 c1_i32_1144
  let v1019 : BitVec 32 := Scalar.addi c0_i32_1145 v1018
  v1019.toNat
def k0_dev52 (v0 : BitVec 32) : Nat :=
  let c0_i32_1155 : BitVec 32 := 0#32
  let c1_i32_1154 : BitVec 32 := 1#32
  let v1028 : BitVec 32 := Scalar.muli v0 c1_i32_1154
  let v1029 : BitVec 32 := Scalar.addi c0_i32_1155 v1028
  v1029.toNat
def k0_off27 (v1038 : BitVec 32) : Fin 2 → Nat :=
  let c256_i32_1161 : BitVec 32 := 256#32
  let v1039 : BitVec 32 := Scalar.muli v1038 c256_i32_1161
  let v1040 : Index := Scalar.indexCast v1039
  let c0_1162 : Index := 0#32
  ![v1040.toNat, 0]

def k0_chk29 (v1038 : BitVec 32) : Prop :=
  (∀ a, (k0_off27 v1038) a + S256x256.size a ≤ S8192x256.size a)
theorem k0_off27_inb : ∀ (v1038 : BitVec 32) (k0_hw29 : k0_chk29 v1038), ∀ a, (k0_off27 v1038) a + S256x256.size a ≤ S8192x256.size a := fun v1038 k0_hw29 => k0_hw29

def k0_off28 (v1045 : BitVec 32) : Fin 2 → Nat :=
  let c256_i32_1168 : BitVec 32 := 256#32
  let v1046 : BitVec 32 := Scalar.muli v1045 c256_i32_1168
  let v1047 : Index := Scalar.indexCast v1046
  let c0_1169 : Index := 0#32
  ![v1047.toNat, 0]

def k0_chk30 (v1045 : BitVec 32) : Prop :=
  (∀ a, (k0_off28 v1045) a + S256x256.size a ≤ S8192x256.size a)
theorem k0_off28_inb : ∀ (v1045 : BitVec 32) (k0_hw30 : k0_chk30 v1045), ∀ a, (k0_off28 v1045) a + S256x256.size a ≤ S8192x256.size a := fun v1045 k0_hw30 => k0_hw30

def k0_dev53 (v0 : BitVec 32) : Nat :=
  let c0_i32_1213 : BitVec 32 := 0#32
  let c1_i32_1212 : BitVec 32 := 1#32
  let v1080 : BitVec 32 := Scalar.muli v0 c1_i32_1212
  let v1081 : BitVec 32 := Scalar.addi c0_i32_1213 v1080
  v1081.toNat
def k0_dev54 (v1 : BitVec 32) : Nat :=
  let c0_i32_1216 : BitVec 32 := 0#32
  let c1_i32_1215 : BitVec 32 := 1#32
  let v1082 : BitVec 32 := Scalar.muli v1 c1_i32_1215
  let v1083 : BitVec 32 := Scalar.addi c0_i32_1216 v1082
  v1083.toNat
def k0_dev55 (v1 : BitVec 32) : Nat :=
  let c0_i32_1238 : BitVec 32 := 0#32
  let c1_i32_1237 : BitVec 32 := 1#32
  let v1100 : BitVec 32 := Scalar.muli v1 c1_i32_1237
  let v1101 : BitVec 32 := Scalar.addi c0_i32_1238 v1100
  v1101.toNat
def k0_dev56 (v0 : BitVec 32) : Nat :=
  let c0_i32_1248 : BitVec 32 := 0#32
  let c1_i32_1247 : BitVec 32 := 1#32
  let v1110 : BitVec 32 := Scalar.muli v0 c1_i32_1247
  let v1111 : BitVec 32 := Scalar.addi c0_i32_1248 v1110
  v1111.toNat
def k0_off29 (v1120 : BitVec 32) : Fin 2 → Nat :=
  let c256_i32_1254 : BitVec 32 := 256#32
  let v1121 : BitVec 32 := Scalar.muli v1120 c256_i32_1254
  let v1122 : Index := Scalar.indexCast v1121
  let c0_1255 : Index := 0#32
  ![v1122.toNat, 0]

def k0_chk31 (v1120 : BitVec 32) : Prop :=
  (∀ a, (k0_off29 v1120) a + S256x256.size a ≤ S8192x256.size a)
theorem k0_off29_inb : ∀ (v1120 : BitVec 32) (k0_hw31 : k0_chk31 v1120), ∀ a, (k0_off29 v1120) a + S256x256.size a ≤ S8192x256.size a := fun v1120 k0_hw31 => k0_hw31

def k0_off30 (v1127 : BitVec 32) : Fin 2 → Nat :=
  let c256_i32_1261 : BitVec 32 := 256#32
  let v1128 : BitVec 32 := Scalar.muli v1127 c256_i32_1261
  let v1129 : Index := Scalar.indexCast v1128
  let c0_1262 : Index := 0#32
  ![v1129.toNat, 0]

def k0_chk32 (v1127 : BitVec 32) : Prop :=
  (∀ a, (k0_off30 v1127) a + S256x256.size a ≤ S8192x256.size a)
theorem k0_off30_inb : ∀ (v1127 : BitVec 32) (k0_hw32 : k0_chk32 v1127), ∀ a, (k0_off30 v1127) a + S256x256.size a ≤ S8192x256.size a := fun v1127 k0_hw32 => k0_hw32

def k0_dev57 (v0 : BitVec 32) : Nat :=
  let c0_i32_1306 : BitVec 32 := 0#32
  let c1_i32_1305 : BitVec 32 := 1#32
  let v1162 : BitVec 32 := Scalar.muli v0 c1_i32_1305
  let v1163 : BitVec 32 := Scalar.addi c0_i32_1306 v1162
  v1163.toNat
def k0_dev58 (v1 : BitVec 32) : Nat :=
  let c0_i32_1309 : BitVec 32 := 0#32
  let c1_i32_1308 : BitVec 32 := 1#32
  let v1164 : BitVec 32 := Scalar.muli v1 c1_i32_1308
  let v1165 : BitVec 32 := Scalar.addi c0_i32_1309 v1164
  v1165.toNat
def k0_dev59 (v1 : BitVec 32) : Nat :=
  let c0_i32_1331 : BitVec 32 := 0#32
  let c1_i32_1330 : BitVec 32 := 1#32
  let v1182 : BitVec 32 := Scalar.muli v1 c1_i32_1330
  let v1183 : BitVec 32 := Scalar.addi c0_i32_1331 v1182
  v1183.toNat
def k0_dev60 (v0 : BitVec 32) : Nat :=
  let c0_i32_1341 : BitVec 32 := 0#32
  let c1_i32_1340 : BitVec 32 := 1#32
  let v1192 : BitVec 32 := Scalar.muli v0 c1_i32_1340
  let v1193 : BitVec 32 := Scalar.addi c0_i32_1341 v1192
  v1193.toNat
def k0_off31 (v1202 : BitVec 32) : Fin 2 → Nat :=
  let c256_i32_1347 : BitVec 32 := 256#32
  let v1203 : BitVec 32 := Scalar.muli v1202 c256_i32_1347
  let v1204 : Index := Scalar.indexCast v1203
  let c0_1348 : Index := 0#32
  ![v1204.toNat, 0]

def k0_chk33 (v1202 : BitVec 32) : Prop :=
  (∀ a, (k0_off31 v1202) a + S256x256.size a ≤ S8192x256.size a)
theorem k0_off31_inb : ∀ (v1202 : BitVec 32) (k0_hw33 : k0_chk33 v1202), ∀ a, (k0_off31 v1202) a + S256x256.size a ≤ S8192x256.size a := fun v1202 k0_hw33 => k0_hw33

def k0_off32 (v1209 : BitVec 32) : Fin 2 → Nat :=
  let c256_i32_1354 : BitVec 32 := 256#32
  let v1210 : BitVec 32 := Scalar.muli v1209 c256_i32_1354
  let v1211 : Index := Scalar.indexCast v1210
  let c0_1355 : Index := 0#32
  ![v1211.toNat, 0]

def k0_chk34 (v1209 : BitVec 32) : Prop :=
  (∀ a, (k0_off32 v1209) a + S256x256.size a ≤ S8192x256.size a)
theorem k0_off32_inb : ∀ (v1209 : BitVec 32) (k0_hw34 : k0_chk34 v1209), ∀ a, (k0_off32 v1209) a + S256x256.size a ≤ S8192x256.size a := fun v1209 k0_hw34 => k0_hw34

def k0_dev61 (v0 : BitVec 32) : Nat :=
  let c0_i32_1399 : BitVec 32 := 0#32
  let c1_i32_1398 : BitVec 32 := 1#32
  let v1244 : BitVec 32 := Scalar.muli v0 c1_i32_1398
  let v1245 : BitVec 32 := Scalar.addi c0_i32_1399 v1244
  v1245.toNat
def k0_dev62 (v1 : BitVec 32) : Nat :=
  let c0_i32_1402 : BitVec 32 := 0#32
  let c1_i32_1401 : BitVec 32 := 1#32
  let v1246 : BitVec 32 := Scalar.muli v1 c1_i32_1401
  let v1247 : BitVec 32 := Scalar.addi c0_i32_1402 v1246
  v1247.toNat
def k0_dev63 (v1 : BitVec 32) : Nat :=
  let c0_i32_1424 : BitVec 32 := 0#32
  let c1_i32_1423 : BitVec 32 := 1#32
  let v1264 : BitVec 32 := Scalar.muli v1 c1_i32_1423
  let v1265 : BitVec 32 := Scalar.addi c0_i32_1424 v1264
  v1265.toNat
def k0_dev64 (v0 : BitVec 32) : Nat :=
  let c0_i32_1434 : BitVec 32 := 0#32
  let c1_i32_1433 : BitVec 32 := 1#32
  let v1274 : BitVec 32 := Scalar.muli v0 c1_i32_1433
  let v1275 : BitVec 32 := Scalar.addi c0_i32_1434 v1274
  v1275.toNat
def k0_off33 (v1284 : BitVec 32) : Fin 2 → Nat :=
  let c256_i32_1440 : BitVec 32 := 256#32
  let v1285 : BitVec 32 := Scalar.muli v1284 c256_i32_1440
  let v1286 : Index := Scalar.indexCast v1285
  let c0_1441 : Index := 0#32
  ![v1286.toNat, 0]

def k0_chk35 (v1284 : BitVec 32) : Prop :=
  (∀ a, (k0_off33 v1284) a + S256x256.size a ≤ S8192x256.size a)
theorem k0_off33_inb : ∀ (v1284 : BitVec 32) (k0_hw35 : k0_chk35 v1284), ∀ a, (k0_off33 v1284) a + S256x256.size a ≤ S8192x256.size a := fun v1284 k0_hw35 => k0_hw35

def k0_off34 (v1291 : BitVec 32) : Fin 2 → Nat :=
  let c256_i32_1447 : BitVec 32 := 256#32
  let v1292 : BitVec 32 := Scalar.muli v1291 c256_i32_1447
  let v1293 : Index := Scalar.indexCast v1292
  let c0_1448 : Index := 0#32
  ![v1293.toNat, 0]

def k0_chk36 (v1291 : BitVec 32) : Prop :=
  (∀ a, (k0_off34 v1291) a + S256x256.size a ≤ S8192x256.size a)
theorem k0_off34_inb : ∀ (v1291 : BitVec 32) (k0_hw36 : k0_chk36 v1291), ∀ a, (k0_off34 v1291) a + S256x256.size a ≤ S8192x256.size a := fun v1291 k0_hw36 => k0_hw36

def k0_dev65 (v0 : BitVec 32) : Nat :=
  let c0_i32_1492 : BitVec 32 := 0#32
  let c1_i32_1491 : BitVec 32 := 1#32
  let v1326 : BitVec 32 := Scalar.muli v0 c1_i32_1491
  let v1327 : BitVec 32 := Scalar.addi c0_i32_1492 v1326
  v1327.toNat
def k0_dev66 (v1 : BitVec 32) : Nat :=
  let c0_i32_1495 : BitVec 32 := 0#32
  let c1_i32_1494 : BitVec 32 := 1#32
  let v1328 : BitVec 32 := Scalar.muli v1 c1_i32_1494
  let v1329 : BitVec 32 := Scalar.addi c0_i32_1495 v1328
  v1329.toNat
def k0_dev67 (v1 : BitVec 32) : Nat :=
  let c0_i32_1517 : BitVec 32 := 0#32
  let c1_i32_1516 : BitVec 32 := 1#32
  let v1346 : BitVec 32 := Scalar.muli v1 c1_i32_1516
  let v1347 : BitVec 32 := Scalar.addi c0_i32_1517 v1346
  v1347.toNat
def k0_dev68 (v0 : BitVec 32) : Nat :=
  let c0_i32_1527 : BitVec 32 := 0#32
  let c1_i32_1526 : BitVec 32 := 1#32
  let v1356 : BitVec 32 := Scalar.muli v0 c1_i32_1526
  let v1357 : BitVec 32 := Scalar.addi c0_i32_1527 v1356
  v1357.toNat
def k0_off35 (v1366 : BitVec 32) : Fin 2 → Nat :=
  let c256_i32_1533 : BitVec 32 := 256#32
  let v1367 : BitVec 32 := Scalar.muli v1366 c256_i32_1533
  let v1368 : Index := Scalar.indexCast v1367
  let c0_1534 : Index := 0#32
  ![v1368.toNat, 0]

def k0_chk37 (v1366 : BitVec 32) : Prop :=
  (∀ a, (k0_off35 v1366) a + S256x256.size a ≤ S8192x256.size a)
theorem k0_off35_inb : ∀ (v1366 : BitVec 32) (k0_hw37 : k0_chk37 v1366), ∀ a, (k0_off35 v1366) a + S256x256.size a ≤ S8192x256.size a := fun v1366 k0_hw37 => k0_hw37

def k0_off36 (v1373 : BitVec 32) : Fin 2 → Nat :=
  let c256_i32_1540 : BitVec 32 := 256#32
  let v1374 : BitVec 32 := Scalar.muli v1373 c256_i32_1540
  let v1375 : Index := Scalar.indexCast v1374
  let c0_1541 : Index := 0#32
  ![v1375.toNat, 0]

def k0_chk38 (v1373 : BitVec 32) : Prop :=
  (∀ a, (k0_off36 v1373) a + S256x256.size a ≤ S8192x256.size a)
theorem k0_off36_inb : ∀ (v1373 : BitVec 32) (k0_hw38 : k0_chk38 v1373), ∀ a, (k0_off36 v1373) a + S256x256.size a ≤ S8192x256.size a := fun v1373 k0_hw38 => k0_hw38

def k0_dev69 (v0 : BitVec 32) : Nat :=
  let c0_i32_1585 : BitVec 32 := 0#32
  let c1_i32_1584 : BitVec 32 := 1#32
  let v1408 : BitVec 32 := Scalar.muli v0 c1_i32_1584
  let v1409 : BitVec 32 := Scalar.addi c0_i32_1585 v1408
  v1409.toNat
def k0_dev70 (v1 : BitVec 32) : Nat :=
  let c0_i32_1588 : BitVec 32 := 0#32
  let c1_i32_1587 : BitVec 32 := 1#32
  let v1410 : BitVec 32 := Scalar.muli v1 c1_i32_1587
  let v1411 : BitVec 32 := Scalar.addi c0_i32_1588 v1410
  v1411.toNat
def k0_dev71 (v1 : BitVec 32) : Nat :=
  let c0_i32_1610 : BitVec 32 := 0#32
  let c1_i32_1609 : BitVec 32 := 1#32
  let v1428 : BitVec 32 := Scalar.muli v1 c1_i32_1609
  let v1429 : BitVec 32 := Scalar.addi c0_i32_1610 v1428
  v1429.toNat
def k0_dev72 (v0 : BitVec 32) : Nat :=
  let c0_i32_1620 : BitVec 32 := 0#32
  let c1_i32_1619 : BitVec 32 := 1#32
  let v1438 : BitVec 32 := Scalar.muli v0 c1_i32_1619
  let v1439 : BitVec 32 := Scalar.addi c0_i32_1620 v1438
  v1439.toNat
def k0_off37 (v1448 : BitVec 32) : Fin 2 → Nat :=
  let c256_i32_1626 : BitVec 32 := 256#32
  let v1449 : BitVec 32 := Scalar.muli v1448 c256_i32_1626
  let v1450 : Index := Scalar.indexCast v1449
  let c0_1627 : Index := 0#32
  ![v1450.toNat, 0]

def k0_chk39 (v1448 : BitVec 32) : Prop :=
  (∀ a, (k0_off37 v1448) a + S256x256.size a ≤ S8192x256.size a)
theorem k0_off37_inb : ∀ (v1448 : BitVec 32) (k0_hw39 : k0_chk39 v1448), ∀ a, (k0_off37 v1448) a + S256x256.size a ≤ S8192x256.size a := fun v1448 k0_hw39 => k0_hw39

def k0_off38 (v1455 : BitVec 32) : Fin 2 → Nat :=
  let c256_i32_1633 : BitVec 32 := 256#32
  let v1456 : BitVec 32 := Scalar.muli v1455 c256_i32_1633
  let v1457 : Index := Scalar.indexCast v1456
  let c0_1634 : Index := 0#32
  ![v1457.toNat, 0]

def k0_chk40 (v1455 : BitVec 32) : Prop :=
  (∀ a, (k0_off38 v1455) a + S256x256.size a ≤ S8192x256.size a)
theorem k0_off38_inb : ∀ (v1455 : BitVec 32) (k0_hw40 : k0_chk40 v1455), ∀ a, (k0_off38 v1455) a + S256x256.size a ≤ S8192x256.size a := fun v1455 k0_hw40 => k0_hw40

def k0_dev73 (v0 : BitVec 32) : Nat :=
  let c0_i32_1678 : BitVec 32 := 0#32
  let c1_i32_1677 : BitVec 32 := 1#32
  let v1490 : BitVec 32 := Scalar.muli v0 c1_i32_1677
  let v1491 : BitVec 32 := Scalar.addi c0_i32_1678 v1490
  v1491.toNat
def k0_dev74 (v1 : BitVec 32) : Nat :=
  let c0_i32_1681 : BitVec 32 := 0#32
  let c1_i32_1680 : BitVec 32 := 1#32
  let v1492 : BitVec 32 := Scalar.muli v1 c1_i32_1680
  let v1493 : BitVec 32 := Scalar.addi c0_i32_1681 v1492
  v1493.toNat
def k0_dev75 (v1 : BitVec 32) : Nat :=
  let c0_i32_1703 : BitVec 32 := 0#32
  let c1_i32_1702 : BitVec 32 := 1#32
  let v1510 : BitVec 32 := Scalar.muli v1 c1_i32_1702
  let v1511 : BitVec 32 := Scalar.addi c0_i32_1703 v1510
  v1511.toNat
def k0_dev76 (v0 : BitVec 32) : Nat :=
  let c0_i32_1713 : BitVec 32 := 0#32
  let c1_i32_1712 : BitVec 32 := 1#32
  let v1520 : BitVec 32 := Scalar.muli v0 c1_i32_1712
  let v1521 : BitVec 32 := Scalar.addi c0_i32_1713 v1520
  v1521.toNat
def k0_off39 (v1530 : BitVec 32) : Fin 2 → Nat :=
  let c256_i32_1719 : BitVec 32 := 256#32
  let v1531 : BitVec 32 := Scalar.muli v1530 c256_i32_1719
  let v1532 : Index := Scalar.indexCast v1531
  let c0_1720 : Index := 0#32
  ![v1532.toNat, 0]

def k0_chk41 (v1530 : BitVec 32) : Prop :=
  (∀ a, (k0_off39 v1530) a + S256x256.size a ≤ S8192x256.size a)
theorem k0_off39_inb : ∀ (v1530 : BitVec 32) (k0_hw41 : k0_chk41 v1530), ∀ a, (k0_off39 v1530) a + S256x256.size a ≤ S8192x256.size a := fun v1530 k0_hw41 => k0_hw41

def k0_off40 (v1537 : BitVec 32) : Fin 2 → Nat :=
  let c256_i32_1726 : BitVec 32 := 256#32
  let v1538 : BitVec 32 := Scalar.muli v1537 c256_i32_1726
  let v1539 : Index := Scalar.indexCast v1538
  let c0_1727 : Index := 0#32
  ![v1539.toNat, 0]

def k0_chk42 (v1537 : BitVec 32) : Prop :=
  (∀ a, (k0_off40 v1537) a + S256x256.size a ≤ S8192x256.size a)
theorem k0_off40_inb : ∀ (v1537 : BitVec 32) (k0_hw42 : k0_chk42 v1537), ∀ a, (k0_off40 v1537) a + S256x256.size a ≤ S8192x256.size a := fun v1537 k0_hw42 => k0_hw42

def k0_dev77 (v0 : BitVec 32) : Nat :=
  let c0_i32_1771 : BitVec 32 := 0#32
  let c1_i32_1770 : BitVec 32 := 1#32
  let v1572 : BitVec 32 := Scalar.muli v0 c1_i32_1770
  let v1573 : BitVec 32 := Scalar.addi c0_i32_1771 v1572
  v1573.toNat
def k0_dev78 (v1 : BitVec 32) : Nat :=
  let c0_i32_1774 : BitVec 32 := 0#32
  let c1_i32_1773 : BitVec 32 := 1#32
  let v1574 : BitVec 32 := Scalar.muli v1 c1_i32_1773
  let v1575 : BitVec 32 := Scalar.addi c0_i32_1774 v1574
  v1575.toNat
def k0_dev79 (v1 : BitVec 32) : Nat :=
  let c0_i32_1796 : BitVec 32 := 0#32
  let c1_i32_1795 : BitVec 32 := 1#32
  let v1592 : BitVec 32 := Scalar.muli v1 c1_i32_1795
  let v1593 : BitVec 32 := Scalar.addi c0_i32_1796 v1592
  v1593.toNat
def k0_dev80 (v0 : BitVec 32) : Nat :=
  let c0_i32_1806 : BitVec 32 := 0#32
  let c1_i32_1805 : BitVec 32 := 1#32
  let v1602 : BitVec 32 := Scalar.muli v0 c1_i32_1805
  let v1603 : BitVec 32 := Scalar.addi c0_i32_1806 v1602
  v1603.toNat
def k0_off41 (v1612 : BitVec 32) : Fin 2 → Nat :=
  let c256_i32_1812 : BitVec 32 := 256#32
  let v1613 : BitVec 32 := Scalar.muli v1612 c256_i32_1812
  let v1614 : Index := Scalar.indexCast v1613
  let c0_1813 : Index := 0#32
  ![v1614.toNat, 0]

def k0_chk43 (v1612 : BitVec 32) : Prop :=
  (∀ a, (k0_off41 v1612) a + S256x256.size a ≤ S8192x256.size a)
theorem k0_off41_inb : ∀ (v1612 : BitVec 32) (k0_hw43 : k0_chk43 v1612), ∀ a, (k0_off41 v1612) a + S256x256.size a ≤ S8192x256.size a := fun v1612 k0_hw43 => k0_hw43

def k0_off42 (v1619 : BitVec 32) : Fin 2 → Nat :=
  let c256_i32_1819 : BitVec 32 := 256#32
  let v1620 : BitVec 32 := Scalar.muli v1619 c256_i32_1819
  let v1621 : Index := Scalar.indexCast v1620
  let c0_1820 : Index := 0#32
  ![v1621.toNat, 0]

def k0_chk44 (v1619 : BitVec 32) : Prop :=
  (∀ a, (k0_off42 v1619) a + S256x256.size a ≤ S8192x256.size a)
theorem k0_off42_inb : ∀ (v1619 : BitVec 32) (k0_hw44 : k0_chk44 v1619), ∀ a, (k0_off42 v1619) a + S256x256.size a ≤ S8192x256.size a := fun v1619 k0_hw44 => k0_hw44

def k0_dev81 (v0 : BitVec 32) : Nat :=
  let c0_i32_1864 : BitVec 32 := 0#32
  let c1_i32_1863 : BitVec 32 := 1#32
  let v1654 : BitVec 32 := Scalar.muli v0 c1_i32_1863
  let v1655 : BitVec 32 := Scalar.addi c0_i32_1864 v1654
  v1655.toNat
def k0_dev82 (v1 : BitVec 32) : Nat :=
  let c0_i32_1867 : BitVec 32 := 0#32
  let c1_i32_1866 : BitVec 32 := 1#32
  let v1656 : BitVec 32 := Scalar.muli v1 c1_i32_1866
  let v1657 : BitVec 32 := Scalar.addi c0_i32_1867 v1656
  v1657.toNat
def k0_dev83 (v1 : BitVec 32) : Nat :=
  let c0_i32_1889 : BitVec 32 := 0#32
  let c1_i32_1888 : BitVec 32 := 1#32
  let v1674 : BitVec 32 := Scalar.muli v1 c1_i32_1888
  let v1675 : BitVec 32 := Scalar.addi c0_i32_1889 v1674
  v1675.toNat
def k0_dev84 (v0 : BitVec 32) : Nat :=
  let c0_i32_1899 : BitVec 32 := 0#32
  let c1_i32_1898 : BitVec 32 := 1#32
  let v1684 : BitVec 32 := Scalar.muli v0 c1_i32_1898
  let v1685 : BitVec 32 := Scalar.addi c0_i32_1899 v1684
  v1685.toNat
def k0_off43 (v1694 : BitVec 32) : Fin 2 → Nat :=
  let c256_i32_1905 : BitVec 32 := 256#32
  let v1695 : BitVec 32 := Scalar.muli v1694 c256_i32_1905
  let v1696 : Index := Scalar.indexCast v1695
  let c0_1906 : Index := 0#32
  ![v1696.toNat, 0]

def k0_chk45 (v1694 : BitVec 32) : Prop :=
  (∀ a, (k0_off43 v1694) a + S256x256.size a ≤ S8192x256.size a)
theorem k0_off43_inb : ∀ (v1694 : BitVec 32) (k0_hw45 : k0_chk45 v1694), ∀ a, (k0_off43 v1694) a + S256x256.size a ≤ S8192x256.size a := fun v1694 k0_hw45 => k0_hw45

def k0_off44 (v1701 : BitVec 32) : Fin 2 → Nat :=
  let c256_i32_1912 : BitVec 32 := 256#32
  let v1702 : BitVec 32 := Scalar.muli v1701 c256_i32_1912
  let v1703 : Index := Scalar.indexCast v1702
  let c0_1913 : Index := 0#32
  ![v1703.toNat, 0]

def k0_chk46 (v1701 : BitVec 32) : Prop :=
  (∀ a, (k0_off44 v1701) a + S256x256.size a ≤ S8192x256.size a)
theorem k0_off44_inb : ∀ (v1701 : BitVec 32) (k0_hw46 : k0_chk46 v1701), ∀ a, (k0_off44 v1701) a + S256x256.size a ≤ S8192x256.size a := fun v1701 k0_hw46 => k0_hw46

def k0_dev85 (v0 : BitVec 32) : Nat :=
  let c0_i32_1957 : BitVec 32 := 0#32
  let c1_i32_1956 : BitVec 32 := 1#32
  let v1736 : BitVec 32 := Scalar.muli v0 c1_i32_1956
  let v1737 : BitVec 32 := Scalar.addi c0_i32_1957 v1736
  v1737.toNat
def k0_dev86 (v1 : BitVec 32) : Nat :=
  let c0_i32_1960 : BitVec 32 := 0#32
  let c1_i32_1959 : BitVec 32 := 1#32
  let v1738 : BitVec 32 := Scalar.muli v1 c1_i32_1959
  let v1739 : BitVec 32 := Scalar.addi c0_i32_1960 v1738
  v1739.toNat
def k0_dev87 (v1 : BitVec 32) : Nat :=
  let c0_i32_1982 : BitVec 32 := 0#32
  let c1_i32_1981 : BitVec 32 := 1#32
  let v1756 : BitVec 32 := Scalar.muli v1 c1_i32_1981
  let v1757 : BitVec 32 := Scalar.addi c0_i32_1982 v1756
  v1757.toNat
def k0_dev88 (v0 : BitVec 32) : Nat :=
  let c0_i32_1992 : BitVec 32 := 0#32
  let c1_i32_1991 : BitVec 32 := 1#32
  let v1766 : BitVec 32 := Scalar.muli v0 c1_i32_1991
  let v1767 : BitVec 32 := Scalar.addi c0_i32_1992 v1766
  v1767.toNat
def k0_off45 (v1776 : BitVec 32) : Fin 2 → Nat :=
  let c256_i32_1998 : BitVec 32 := 256#32
  let v1777 : BitVec 32 := Scalar.muli v1776 c256_i32_1998
  let v1778 : Index := Scalar.indexCast v1777
  let c0_1999 : Index := 0#32
  ![v1778.toNat, 0]

def k0_chk47 (v1776 : BitVec 32) : Prop :=
  (∀ a, (k0_off45 v1776) a + S256x256.size a ≤ S8192x256.size a)
theorem k0_off45_inb : ∀ (v1776 : BitVec 32) (k0_hw47 : k0_chk47 v1776), ∀ a, (k0_off45 v1776) a + S256x256.size a ≤ S8192x256.size a := fun v1776 k0_hw47 => k0_hw47

def k0_off46 (v1783 : BitVec 32) : Fin 2 → Nat :=
  let c256_i32_2005 : BitVec 32 := 256#32
  let v1784 : BitVec 32 := Scalar.muli v1783 c256_i32_2005
  let v1785 : Index := Scalar.indexCast v1784
  let c0_2006 : Index := 0#32
  ![v1785.toNat, 0]

def k0_chk48 (v1783 : BitVec 32) : Prop :=
  (∀ a, (k0_off46 v1783) a + S256x256.size a ≤ S8192x256.size a)
theorem k0_off46_inb : ∀ (v1783 : BitVec 32) (k0_hw48 : k0_chk48 v1783), ∀ a, (k0_off46 v1783) a + S256x256.size a ≤ S8192x256.size a := fun v1783 k0_hw48 => k0_hw48

def k0_dev89 (v0 : BitVec 32) : Nat :=
  let c0_i32_2050 : BitVec 32 := 0#32
  let c1_i32_2049 : BitVec 32 := 1#32
  let v1818 : BitVec 32 := Scalar.muli v0 c1_i32_2049
  let v1819 : BitVec 32 := Scalar.addi c0_i32_2050 v1818
  v1819.toNat
def k0_dev90 (v1 : BitVec 32) : Nat :=
  let c0_i32_2053 : BitVec 32 := 0#32
  let c1_i32_2052 : BitVec 32 := 1#32
  let v1820 : BitVec 32 := Scalar.muli v1 c1_i32_2052
  let v1821 : BitVec 32 := Scalar.addi c0_i32_2053 v1820
  v1821.toNat
def k0_dev91 (v1 : BitVec 32) : Nat :=
  let c0_i32_2075 : BitVec 32 := 0#32
  let c1_i32_2074 : BitVec 32 := 1#32
  let v1838 : BitVec 32 := Scalar.muli v1 c1_i32_2074
  let v1839 : BitVec 32 := Scalar.addi c0_i32_2075 v1838
  v1839.toNat
def k0_dev92 (v0 : BitVec 32) : Nat :=
  let c0_i32_2085 : BitVec 32 := 0#32
  let c1_i32_2084 : BitVec 32 := 1#32
  let v1848 : BitVec 32 := Scalar.muli v0 c1_i32_2084
  let v1849 : BitVec 32 := Scalar.addi c0_i32_2085 v1848
  v1849.toNat
def k0_off47 (v1858 : BitVec 32) : Fin 2 → Nat :=
  let c256_i32_2091 : BitVec 32 := 256#32
  let v1859 : BitVec 32 := Scalar.muli v1858 c256_i32_2091
  let v1860 : Index := Scalar.indexCast v1859
  let c0_2092 : Index := 0#32
  ![v1860.toNat, 0]

def k0_chk49 (v1858 : BitVec 32) : Prop :=
  (∀ a, (k0_off47 v1858) a + S256x256.size a ≤ S8192x256.size a)
theorem k0_off47_inb : ∀ (v1858 : BitVec 32) (k0_hw49 : k0_chk49 v1858), ∀ a, (k0_off47 v1858) a + S256x256.size a ≤ S8192x256.size a := fun v1858 k0_hw49 => k0_hw49

def k0_off48 (v1865 : BitVec 32) : Fin 2 → Nat :=
  let c256_i32_2098 : BitVec 32 := 256#32
  let v1866 : BitVec 32 := Scalar.muli v1865 c256_i32_2098
  let v1867 : Index := Scalar.indexCast v1866
  let c0_2099 : Index := 0#32
  ![v1867.toNat, 0]

def k0_chk50 (v1865 : BitVec 32) : Prop :=
  (∀ a, (k0_off48 v1865) a + S256x256.size a ≤ S8192x256.size a)
theorem k0_off48_inb : ∀ (v1865 : BitVec 32) (k0_hw50 : k0_chk50 v1865), ∀ a, (k0_off48 v1865) a + S256x256.size a ≤ S8192x256.size a := fun v1865 k0_hw50 => k0_hw50

def k0_dev93 (v0 : BitVec 32) : Nat :=
  let c0_i32_2143 : BitVec 32 := 0#32
  let c1_i32_2142 : BitVec 32 := 1#32
  let v1900 : BitVec 32 := Scalar.muli v0 c1_i32_2142
  let v1901 : BitVec 32 := Scalar.addi c0_i32_2143 v1900
  v1901.toNat
def k0_dev94 (v1 : BitVec 32) : Nat :=
  let c0_i32_2146 : BitVec 32 := 0#32
  let c1_i32_2145 : BitVec 32 := 1#32
  let v1902 : BitVec 32 := Scalar.muli v1 c1_i32_2145
  let v1903 : BitVec 32 := Scalar.addi c0_i32_2146 v1902
  v1903.toNat
def k0_dev95 (v1 : BitVec 32) : Nat :=
  let c0_i32_2168 : BitVec 32 := 0#32
  let c1_i32_2167 : BitVec 32 := 1#32
  let v1920 : BitVec 32 := Scalar.muli v1 c1_i32_2167
  let v1921 : BitVec 32 := Scalar.addi c0_i32_2168 v1920
  v1921.toNat
def k0_dev96 (v0 : BitVec 32) : Nat :=
  let c0_i32_2178 : BitVec 32 := 0#32
  let c1_i32_2177 : BitVec 32 := 1#32
  let v1930 : BitVec 32 := Scalar.muli v0 c1_i32_2177
  let v1931 : BitVec 32 := Scalar.addi c0_i32_2178 v1930
  v1931.toNat
def k0_off49 (v1940 : BitVec 32) : Fin 2 → Nat :=
  let c256_i32_2184 : BitVec 32 := 256#32
  let v1941 : BitVec 32 := Scalar.muli v1940 c256_i32_2184
  let v1942 : Index := Scalar.indexCast v1941
  let c0_2185 : Index := 0#32
  ![v1942.toNat, 0]

def k0_chk51 (v1940 : BitVec 32) : Prop :=
  (∀ a, (k0_off49 v1940) a + S256x256.size a ≤ S8192x256.size a)
theorem k0_off49_inb : ∀ (v1940 : BitVec 32) (k0_hw51 : k0_chk51 v1940), ∀ a, (k0_off49 v1940) a + S256x256.size a ≤ S8192x256.size a := fun v1940 k0_hw51 => k0_hw51

def k0_off50 (v1947 : BitVec 32) : Fin 2 → Nat :=
  let c256_i32_2191 : BitVec 32 := 256#32
  let v1948 : BitVec 32 := Scalar.muli v1947 c256_i32_2191
  let v1949 : Index := Scalar.indexCast v1948
  let c0_2192 : Index := 0#32
  ![v1949.toNat, 0]

def k0_chk52 (v1947 : BitVec 32) : Prop :=
  (∀ a, (k0_off50 v1947) a + S256x256.size a ≤ S8192x256.size a)
theorem k0_off50_inb : ∀ (v1947 : BitVec 32) (k0_hw52 : k0_chk52 v1947), ∀ a, (k0_off50 v1947) a + S256x256.size a ≤ S8192x256.size a := fun v1947 k0_hw52 => k0_hw52

def k0_dev97 (v0 : BitVec 32) : Nat :=
  let c0_i32_2236 : BitVec 32 := 0#32
  let c1_i32_2235 : BitVec 32 := 1#32
  let v1982 : BitVec 32 := Scalar.muli v0 c1_i32_2235
  let v1983 : BitVec 32 := Scalar.addi c0_i32_2236 v1982
  v1983.toNat
def k0_dev98 (v1 : BitVec 32) : Nat :=
  let c0_i32_2239 : BitVec 32 := 0#32
  let c1_i32_2238 : BitVec 32 := 1#32
  let v1984 : BitVec 32 := Scalar.muli v1 c1_i32_2238
  let v1985 : BitVec 32 := Scalar.addi c0_i32_2239 v1984
  v1985.toNat
def k0_dev99 (v1 : BitVec 32) : Nat :=
  let c0_i32_2261 : BitVec 32 := 0#32
  let c1_i32_2260 : BitVec 32 := 1#32
  let v2002 : BitVec 32 := Scalar.muli v1 c1_i32_2260
  let v2003 : BitVec 32 := Scalar.addi c0_i32_2261 v2002
  v2003.toNat
def k0_dev100 (v0 : BitVec 32) : Nat :=
  let c0_i32_2271 : BitVec 32 := 0#32
  let c1_i32_2270 : BitVec 32 := 1#32
  let v2012 : BitVec 32 := Scalar.muli v0 c1_i32_2270
  let v2013 : BitVec 32 := Scalar.addi c0_i32_2271 v2012
  v2013.toNat
def k0_off51 (v2022 : BitVec 32) : Fin 2 → Nat :=
  let c256_i32_2277 : BitVec 32 := 256#32
  let v2023 : BitVec 32 := Scalar.muli v2022 c256_i32_2277
  let v2024 : Index := Scalar.indexCast v2023
  let c0_2278 : Index := 0#32
  ![v2024.toNat, 0]

def k0_chk53 (v2022 : BitVec 32) : Prop :=
  (∀ a, (k0_off51 v2022) a + S256x256.size a ≤ S8192x256.size a)
theorem k0_off51_inb : ∀ (v2022 : BitVec 32) (k0_hw53 : k0_chk53 v2022), ∀ a, (k0_off51 v2022) a + S256x256.size a ≤ S8192x256.size a := fun v2022 k0_hw53 => k0_hw53

def k0_off52 (v2029 : BitVec 32) : Fin 2 → Nat :=
  let c256_i32_2284 : BitVec 32 := 256#32
  let v2030 : BitVec 32 := Scalar.muli v2029 c256_i32_2284
  let v2031 : Index := Scalar.indexCast v2030
  let c0_2285 : Index := 0#32
  ![v2031.toNat, 0]

def k0_chk54 (v2029 : BitVec 32) : Prop :=
  (∀ a, (k0_off52 v2029) a + S256x256.size a ≤ S8192x256.size a)
theorem k0_off52_inb : ∀ (v2029 : BitVec 32) (k0_hw54 : k0_chk54 v2029), ∀ a, (k0_off52 v2029) a + S256x256.size a ≤ S8192x256.size a := fun v2029 k0_hw54 => k0_hw54

def k0_dev101 (v0 : BitVec 32) : Nat :=
  let c0_i32_2329 : BitVec 32 := 0#32
  let c1_i32_2328 : BitVec 32 := 1#32
  let v2064 : BitVec 32 := Scalar.muli v0 c1_i32_2328
  let v2065 : BitVec 32 := Scalar.addi c0_i32_2329 v2064
  v2065.toNat
def k0_dev102 (v1 : BitVec 32) : Nat :=
  let c0_i32_2332 : BitVec 32 := 0#32
  let c1_i32_2331 : BitVec 32 := 1#32
  let v2066 : BitVec 32 := Scalar.muli v1 c1_i32_2331
  let v2067 : BitVec 32 := Scalar.addi c0_i32_2332 v2066
  v2067.toNat
def k0_dev103 (v1 : BitVec 32) : Nat :=
  let c0_i32_2354 : BitVec 32 := 0#32
  let c1_i32_2353 : BitVec 32 := 1#32
  let v2084 : BitVec 32 := Scalar.muli v1 c1_i32_2353
  let v2085 : BitVec 32 := Scalar.addi c0_i32_2354 v2084
  v2085.toNat
def k0_dev104 (v0 : BitVec 32) : Nat :=
  let c0_i32_2364 : BitVec 32 := 0#32
  let c1_i32_2363 : BitVec 32 := 1#32
  let v2094 : BitVec 32 := Scalar.muli v0 c1_i32_2363
  let v2095 : BitVec 32 := Scalar.addi c0_i32_2364 v2094
  v2095.toNat
def k0_off53 (v2104 : BitVec 32) : Fin 2 → Nat :=
  let c256_i32_2370 : BitVec 32 := 256#32
  let v2105 : BitVec 32 := Scalar.muli v2104 c256_i32_2370
  let v2106 : Index := Scalar.indexCast v2105
  let c0_2371 : Index := 0#32
  ![v2106.toNat, 0]

def k0_chk55 (v2104 : BitVec 32) : Prop :=
  (∀ a, (k0_off53 v2104) a + S256x256.size a ≤ S8192x256.size a)
theorem k0_off53_inb : ∀ (v2104 : BitVec 32) (k0_hw55 : k0_chk55 v2104), ∀ a, (k0_off53 v2104) a + S256x256.size a ≤ S8192x256.size a := fun v2104 k0_hw55 => k0_hw55

def k0_off54 (v2111 : BitVec 32) : Fin 2 → Nat :=
  let c256_i32_2377 : BitVec 32 := 256#32
  let v2112 : BitVec 32 := Scalar.muli v2111 c256_i32_2377
  let v2113 : Index := Scalar.indexCast v2112
  let c0_2378 : Index := 0#32
  ![v2113.toNat, 0]

def k0_chk56 (v2111 : BitVec 32) : Prop :=
  (∀ a, (k0_off54 v2111) a + S256x256.size a ≤ S8192x256.size a)
theorem k0_off54_inb : ∀ (v2111 : BitVec 32) (k0_hw56 : k0_chk56 v2111), ∀ a, (k0_off54 v2111) a + S256x256.size a ≤ S8192x256.size a := fun v2111 k0_hw56 => k0_hw56

def k0_dev105 (v0 : BitVec 32) : Nat :=
  let c0_i32_2422 : BitVec 32 := 0#32
  let c1_i32_2421 : BitVec 32 := 1#32
  let v2146 : BitVec 32 := Scalar.muli v0 c1_i32_2421
  let v2147 : BitVec 32 := Scalar.addi c0_i32_2422 v2146
  v2147.toNat
def k0_dev106 (v1 : BitVec 32) : Nat :=
  let c0_i32_2425 : BitVec 32 := 0#32
  let c1_i32_2424 : BitVec 32 := 1#32
  let v2148 : BitVec 32 := Scalar.muli v1 c1_i32_2424
  let v2149 : BitVec 32 := Scalar.addi c0_i32_2425 v2148
  v2149.toNat
def k0_dev107 (v1 : BitVec 32) : Nat :=
  let c0_i32_2447 : BitVec 32 := 0#32
  let c1_i32_2446 : BitVec 32 := 1#32
  let v2166 : BitVec 32 := Scalar.muli v1 c1_i32_2446
  let v2167 : BitVec 32 := Scalar.addi c0_i32_2447 v2166
  v2167.toNat
def k0_dev108 (v0 : BitVec 32) : Nat :=
  let c0_i32_2457 : BitVec 32 := 0#32
  let c1_i32_2456 : BitVec 32 := 1#32
  let v2176 : BitVec 32 := Scalar.muli v0 c1_i32_2456
  let v2177 : BitVec 32 := Scalar.addi c0_i32_2457 v2176
  v2177.toNat
def k0_off55 (v2186 : BitVec 32) : Fin 2 → Nat :=
  let c256_i32_2463 : BitVec 32 := 256#32
  let v2187 : BitVec 32 := Scalar.muli v2186 c256_i32_2463
  let v2188 : Index := Scalar.indexCast v2187
  let c0_2464 : Index := 0#32
  ![v2188.toNat, 0]

def k0_chk57 (v2186 : BitVec 32) : Prop :=
  (∀ a, (k0_off55 v2186) a + S256x256.size a ≤ S8192x256.size a)
theorem k0_off55_inb : ∀ (v2186 : BitVec 32) (k0_hw57 : k0_chk57 v2186), ∀ a, (k0_off55 v2186) a + S256x256.size a ≤ S8192x256.size a := fun v2186 k0_hw57 => k0_hw57

def k0_off56 (v2193 : BitVec 32) : Fin 2 → Nat :=
  let c256_i32_2470 : BitVec 32 := 256#32
  let v2194 : BitVec 32 := Scalar.muli v2193 c256_i32_2470
  let v2195 : Index := Scalar.indexCast v2194
  let c0_2471 : Index := 0#32
  ![v2195.toNat, 0]

def k0_chk58 (v2193 : BitVec 32) : Prop :=
  (∀ a, (k0_off56 v2193) a + S256x256.size a ≤ S8192x256.size a)
theorem k0_off56_inb : ∀ (v2193 : BitVec 32) (k0_hw58 : k0_chk58 v2193), ∀ a, (k0_off56 v2193) a + S256x256.size a ≤ S8192x256.size a := fun v2193 k0_hw58 => k0_hw58

def k0_dev109 (v0 : BitVec 32) : Nat :=
  let c0_i32_2515 : BitVec 32 := 0#32
  let c1_i32_2514 : BitVec 32 := 1#32
  let v2228 : BitVec 32 := Scalar.muli v0 c1_i32_2514
  let v2229 : BitVec 32 := Scalar.addi c0_i32_2515 v2228
  v2229.toNat
def k0_dev110 (v1 : BitVec 32) : Nat :=
  let c0_i32_2518 : BitVec 32 := 0#32
  let c1_i32_2517 : BitVec 32 := 1#32
  let v2230 : BitVec 32 := Scalar.muli v1 c1_i32_2517
  let v2231 : BitVec 32 := Scalar.addi c0_i32_2518 v2230
  v2231.toNat
def k0_dev111 (v1 : BitVec 32) : Nat :=
  let c0_i32_2540 : BitVec 32 := 0#32
  let c1_i32_2539 : BitVec 32 := 1#32
  let v2248 : BitVec 32 := Scalar.muli v1 c1_i32_2539
  let v2249 : BitVec 32 := Scalar.addi c0_i32_2540 v2248
  v2249.toNat
def k0_dev112 (v0 : BitVec 32) : Nat :=
  let c0_i32_2550 : BitVec 32 := 0#32
  let c1_i32_2549 : BitVec 32 := 1#32
  let v2258 : BitVec 32 := Scalar.muli v0 c1_i32_2549
  let v2259 : BitVec 32 := Scalar.addi c0_i32_2550 v2258
  v2259.toNat
def k0_off57 (v2268 : BitVec 32) : Fin 2 → Nat :=
  let c256_i32_2556 : BitVec 32 := 256#32
  let v2269 : BitVec 32 := Scalar.muli v2268 c256_i32_2556
  let v2270 : Index := Scalar.indexCast v2269
  let c0_2557 : Index := 0#32
  ![v2270.toNat, 0]

def k0_chk59 (v2268 : BitVec 32) : Prop :=
  (∀ a, (k0_off57 v2268) a + S256x256.size a ≤ S8192x256.size a)
theorem k0_off57_inb : ∀ (v2268 : BitVec 32) (k0_hw59 : k0_chk59 v2268), ∀ a, (k0_off57 v2268) a + S256x256.size a ≤ S8192x256.size a := fun v2268 k0_hw59 => k0_hw59

def k0_off58 (v2275 : BitVec 32) : Fin 2 → Nat :=
  let c256_i32_2563 : BitVec 32 := 256#32
  let v2276 : BitVec 32 := Scalar.muli v2275 c256_i32_2563
  let v2277 : Index := Scalar.indexCast v2276
  let c0_2564 : Index := 0#32
  ![v2277.toNat, 0]

def k0_chk60 (v2275 : BitVec 32) : Prop :=
  (∀ a, (k0_off58 v2275) a + S256x256.size a ≤ S8192x256.size a)
theorem k0_off58_inb : ∀ (v2275 : BitVec 32) (k0_hw60 : k0_chk60 v2275), ∀ a, (k0_off58 v2275) a + S256x256.size a ≤ S8192x256.size a := fun v2275 k0_hw60 => k0_hw60

def k0_dev113 (v0 : BitVec 32) : Nat :=
  let c0_i32_2608 : BitVec 32 := 0#32
  let c1_i32_2607 : BitVec 32 := 1#32
  let v2310 : BitVec 32 := Scalar.muli v0 c1_i32_2607
  let v2311 : BitVec 32 := Scalar.addi c0_i32_2608 v2310
  v2311.toNat
def k0_dev114 (v1 : BitVec 32) : Nat :=
  let c0_i32_2611 : BitVec 32 := 0#32
  let c1_i32_2610 : BitVec 32 := 1#32
  let v2312 : BitVec 32 := Scalar.muli v1 c1_i32_2610
  let v2313 : BitVec 32 := Scalar.addi c0_i32_2611 v2312
  v2313.toNat
def k0_dev115 (v1 : BitVec 32) : Nat :=
  let c0_i32_2633 : BitVec 32 := 0#32
  let c1_i32_2632 : BitVec 32 := 1#32
  let v2330 : BitVec 32 := Scalar.muli v1 c1_i32_2632
  let v2331 : BitVec 32 := Scalar.addi c0_i32_2633 v2330
  v2331.toNat
def k0_dev116 (v0 : BitVec 32) : Nat :=
  let c0_i32_2643 : BitVec 32 := 0#32
  let c1_i32_2642 : BitVec 32 := 1#32
  let v2340 : BitVec 32 := Scalar.muli v0 c1_i32_2642
  let v2341 : BitVec 32 := Scalar.addi c0_i32_2643 v2340
  v2341.toNat
def k0_off59 (v2350 : BitVec 32) : Fin 2 → Nat :=
  let c256_i32_2649 : BitVec 32 := 256#32
  let v2351 : BitVec 32 := Scalar.muli v2350 c256_i32_2649
  let v2352 : Index := Scalar.indexCast v2351
  let c0_2650 : Index := 0#32
  ![v2352.toNat, 0]

def k0_chk61 (v2350 : BitVec 32) : Prop :=
  (∀ a, (k0_off59 v2350) a + S256x256.size a ≤ S8192x256.size a)
theorem k0_off59_inb : ∀ (v2350 : BitVec 32) (k0_hw61 : k0_chk61 v2350), ∀ a, (k0_off59 v2350) a + S256x256.size a ≤ S8192x256.size a := fun v2350 k0_hw61 => k0_hw61

def k0_off60 (v2357 : BitVec 32) : Fin 2 → Nat :=
  let c256_i32_2656 : BitVec 32 := 256#32
  let v2358 : BitVec 32 := Scalar.muli v2357 c256_i32_2656
  let v2359 : Index := Scalar.indexCast v2358
  let c0_2657 : Index := 0#32
  ![v2359.toNat, 0]

def k0_chk62 (v2357 : BitVec 32) : Prop :=
  (∀ a, (k0_off60 v2357) a + S256x256.size a ≤ S8192x256.size a)
theorem k0_off60_inb : ∀ (v2357 : BitVec 32) (k0_hw62 : k0_chk62 v2357), ∀ a, (k0_off60 v2357) a + S256x256.size a ≤ S8192x256.size a := fun v2357 k0_hw62 => k0_hw62

def k0_dev117 (v0 : BitVec 32) : Nat :=
  let c0_i32_2701 : BitVec 32 := 0#32
  let c1_i32_2700 : BitVec 32 := 1#32
  let v2392 : BitVec 32 := Scalar.muli v0 c1_i32_2700
  let v2393 : BitVec 32 := Scalar.addi c0_i32_2701 v2392
  v2393.toNat
def k0_dev118 (v1 : BitVec 32) : Nat :=
  let c0_i32_2704 : BitVec 32 := 0#32
  let c1_i32_2703 : BitVec 32 := 1#32
  let v2394 : BitVec 32 := Scalar.muli v1 c1_i32_2703
  let v2395 : BitVec 32 := Scalar.addi c0_i32_2704 v2394
  v2395.toNat
def k0_dev119 (v1 : BitVec 32) : Nat :=
  let c0_i32_2726 : BitVec 32 := 0#32
  let c1_i32_2725 : BitVec 32 := 1#32
  let v2412 : BitVec 32 := Scalar.muli v1 c1_i32_2725
  let v2413 : BitVec 32 := Scalar.addi c0_i32_2726 v2412
  v2413.toNat
def k0_dev120 (v0 : BitVec 32) : Nat :=
  let c0_i32_2736 : BitVec 32 := 0#32
  let c1_i32_2735 : BitVec 32 := 1#32
  let v2422 : BitVec 32 := Scalar.muli v0 c1_i32_2735
  let v2423 : BitVec 32 := Scalar.addi c0_i32_2736 v2422
  v2423.toNat
def k0_off61 (v2432 : BitVec 32) : Fin 2 → Nat :=
  let c256_i32_2742 : BitVec 32 := 256#32
  let v2433 : BitVec 32 := Scalar.muli v2432 c256_i32_2742
  let v2434 : Index := Scalar.indexCast v2433
  let c0_2743 : Index := 0#32
  ![v2434.toNat, 0]

def k0_chk63 (v2432 : BitVec 32) : Prop :=
  (∀ a, (k0_off61 v2432) a + S256x256.size a ≤ S8192x256.size a)
theorem k0_off61_inb : ∀ (v2432 : BitVec 32) (k0_hw63 : k0_chk63 v2432), ∀ a, (k0_off61 v2432) a + S256x256.size a ≤ S8192x256.size a := fun v2432 k0_hw63 => k0_hw63

def k0_off62 (v2439 : BitVec 32) : Fin 2 → Nat :=
  let c256_i32_2749 : BitVec 32 := 256#32
  let v2440 : BitVec 32 := Scalar.muli v2439 c256_i32_2749
  let v2441 : Index := Scalar.indexCast v2440
  let c0_2750 : Index := 0#32
  ![v2441.toNat, 0]

def k0_chk64 (v2439 : BitVec 32) : Prop :=
  (∀ a, (k0_off62 v2439) a + S256x256.size a ≤ S8192x256.size a)
theorem k0_off62_inb : ∀ (v2439 : BitVec 32) (k0_hw64 : k0_chk64 v2439), ∀ a, (k0_off62 v2439) a + S256x256.size a ≤ S8192x256.size a := fun v2439 k0_hw64 => k0_hw64

def k0_dev121 (v1 : BitVec 32) : Nat :=
  let c0_i32_2813 : BitVec 32 := 0#32
  let c1_i32_2812 : BitVec 32 := 1#32
  let v2490 : BitVec 32 := Scalar.muli v1 c1_i32_2812
  let v2491 : BitVec 32 := Scalar.addi c0_i32_2813 v2490
  v2491.toNat

def k0_chk2_0 (v1 : BitVec 32) : Prop :=
  ((k0_dev2 v1) < nD) ∧
  ((k0_dev3 v1) < nD) ∧
  ((k0_dev6 v1) < nD) ∧
  ((k0_dev7 v1) < nD) ∧
  ((k0_dev10 v1) < nD) ∧
  ((k0_dev11 v1) < nD) ∧
  ((k0_dev14 v1) < nD) ∧
  ((k0_dev15 v1) < nD) ∧
  ((k0_dev18 v1) < nD) ∧
  ((k0_dev19 v1) < nD) ∧
  ((k0_dev22 v1) < nD) ∧
  ((k0_dev23 v1) < nD) ∧
  ((k0_dev26 v1) < nD) ∧
  ((k0_dev27 v1) < nD) ∧
  ((k0_dev30 v1) < nD) ∧
  ((k0_dev31 v1) < nD) ∧
  ((k0_dev34 v1) < nD) ∧
  ((k0_dev35 v1) < nD) ∧
  ((k0_dev38 v1) < nD) ∧
  ((k0_dev39 v1) < nD) ∧
  ((k0_dev42 v1) < nD) ∧
  ((k0_dev43 v1) < nD) ∧
  ((k0_dev46 v1) < nD) ∧
  ((k0_dev47 v1) < nD) ∧
  ((k0_dev50 v1) < nD) ∧
  ((k0_dev51 v1) < nD) ∧
  ((k0_dev54 v1) < nD) ∧
  ((k0_dev55 v1) < nD) ∧
  ((k0_dev58 v1) < nD) ∧
  ((k0_dev59 v1) < nD) ∧
  ((k0_dev62 v1) < nD) ∧
  ((k0_dev63 v1) < nD)
def k0_chk2_1 (v1 : BitVec 32) : Prop :=
  ((k0_dev66 v1) < nD) ∧
  ((k0_dev67 v1) < nD) ∧
  ((k0_dev70 v1) < nD) ∧
  ((k0_dev71 v1) < nD) ∧
  ((k0_dev74 v1) < nD) ∧
  ((k0_dev75 v1) < nD) ∧
  ((k0_dev78 v1) < nD) ∧
  ((k0_dev79 v1) < nD) ∧
  ((k0_dev82 v1) < nD) ∧
  ((k0_dev83 v1) < nD) ∧
  ((k0_dev86 v1) < nD) ∧
  ((k0_dev87 v1) < nD) ∧
  ((k0_dev90 v1) < nD) ∧
  ((k0_dev91 v1) < nD) ∧
  ((k0_dev94 v1) < nD) ∧
  ((k0_dev95 v1) < nD) ∧
  ((k0_dev98 v1) < nD) ∧
  ((k0_dev99 v1) < nD) ∧
  ((k0_dev102 v1) < nD) ∧
  ((k0_dev103 v1) < nD) ∧
  ((k0_dev106 v1) < nD) ∧
  ((k0_dev107 v1) < nD) ∧
  ((k0_dev110 v1) < nD) ∧
  ((k0_dev111 v1) < nD) ∧
  ((k0_dev114 v1) < nD) ∧
  ((k0_dev115 v1) < nD) ∧
  ((k0_dev118 v1) < nD) ∧
  ((k0_dev119 v1) < nD) ∧
  ((k0_dev121 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1
theorem k0_dev67_lt : ∀ (v1 : BitVec 32) (k0_hw2 : k0_chk2 v1), (k0_dev67 v1) < nD := fun v1 k0_hw2 => k0_hw2.2.2.1
theorem k0_dev70_lt : ∀ (v1 : BitVec 32) (k0_hw2 : k0_chk2 v1), (k0_dev70 v1) < nD := fun v1 k0_hw2 => k0_hw2.2.2.2.1
theorem k0_dev71_lt : ∀ (v1 : BitVec 32) (k0_hw2 : k0_chk2 v1), (k0_dev71 v1) < nD := fun v1 k0_hw2 => k0_hw2.2.2.2.2.1
theorem k0_dev74_lt : ∀ (v1 : BitVec 32) (k0_hw2 : k0_chk2 v1), (k0_dev74 v1) < nD := fun v1 k0_hw2 => k0_hw2.2.2.2.2.2.1
theorem k0_dev75_lt : ∀ (v1 : BitVec 32) (k0_hw2 : k0_chk2 v1), (k0_dev75 v1) < nD := fun v1 k0_hw2 => k0_hw2.2.2.2.2.2.2.1
theorem k0_dev78_lt : ∀ (v1 : BitVec 32) (k0_hw2 : k0_chk2 v1), (k0_dev78 v1) < nD := fun v1 k0_hw2 => k0_hw2.2.2.2.2.2.2.2.1
theorem k0_dev79_lt : ∀ (v1 : BitVec 32) (k0_hw2 : k0_chk2 v1), (k0_dev79 v1) < nD := fun v1 k0_hw2 => k0_hw2.2.2.2.2.2.2.2.2.1
theorem k0_dev82_lt : ∀ (v1 : BitVec 32) (k0_hw2 : k0_chk2 v1), (k0_dev82 v1) < nD := fun v1 k0_hw2 => k0_hw2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.1
theorem k0_dev86_lt : ∀ (v1 : BitVec 32) (k0_hw2 : k0_chk2 v1), (k0_dev86 v1) < nD := fun v1 k0_hw2 => k0_hw2.2.2.2.2.2.2.2.2.2.2.2.1
theorem k0_dev87_lt : ∀ (v1 : BitVec 32) (k0_hw2 : k0_chk2 v1), (k0_dev87 v1) < nD := fun v1 k0_hw2 => k0_hw2.2.2.2.2.2.2.2.2.2.2.2.2.1
theorem k0_dev90_lt : ∀ (v1 : BitVec 32) (k0_hw2 : k0_chk2 v1), (k0_dev90 v1) < nD := fun v1 k0_hw2 => k0_hw2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.1
theorem k0_dev94_lt : ∀ (v1 : BitVec 32) (k0_hw2 : k0_chk2 v1), (k0_dev94 v1) < nD := fun v1 k0_hw2 => k0_hw2.2.2.2.2.2.2.2.2.2.2.2.2.2.2.2.1
theorem k0_dev95_lt : ∀ (v1 : BitVec 32) (k0_hw2 : k0_chk2 v1), (k0_dev95 v1) < nD := fun v1 k0_hw2 => k0_hw2.2.2.2.2.2.2.2.2.2.2.2.2.2.2.2.2.1
theorem k0_dev98_lt : ∀ (v1 : BitVec 32) (k0_hw2 : k0_chk2 v1), (k0_dev98 v1) < nD := fun v1 k0_hw2 => k0_hw2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.1
theorem k0_dev102_lt : ∀ (v1 : BitVec 32) (k0_hw2 : k0_chk2 v1), (k0_dev102 v1) < nD := fun v1 k0_hw2 => k0_hw2.2.2.2.2.2.2.2.2.2.2.2.2.2.2.2.2.2.2.2.1
theorem k0_dev103_lt : ∀ (v1 : BitVec 32) (k0_hw2 : k0_chk2 v1), (k0_dev103 v1) < nD := fun v1 k0_hw2 => k0_hw2.2.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.2.2.2.2.2.2.2.2.2.2.2.2.2.2.2.2.2.2.2.2.2.2.2.2.2.2.2.2

def k0_dev122 (v0 : BitVec 32) : Nat :=
  let c0_i32_2823 : BitVec 32 := 0#32
  let c1_i32_2822 : BitVec 32 := 1#32
  let v2500 : BitVec 32 := Scalar.muli v0 c1_i32_2822
  let v2501 : BitVec 32 := Scalar.addi c0_i32_2823 v2500
  v2501.toNat

def k0_chk1_0 (v0 : BitVec 32) : Prop :=
  ((k0_dev1 v0) < nD) ∧
  ((k0_dev4 v0) < nD) ∧
  ((k0_dev5 v0) < nD) ∧
  ((k0_dev8 v0) < nD) ∧
  ((k0_dev9 v0) < nD) ∧
  ((k0_dev12 v0) < nD) ∧
  ((k0_dev13 v0) < nD) ∧
  ((k0_dev16 v0) < nD) ∧
  ((k0_dev17 v0) < nD) ∧
  ((k0_dev20 v0) < nD) ∧
  ((k0_dev21 v0) < nD) ∧
  ((k0_dev24 v0) < nD) ∧
  ((k0_dev25 v0) < nD) ∧
  ((k0_dev28 v0) < nD) ∧
  ((k0_dev29 v0) < nD) ∧
  ((k0_dev32 v0) < nD) ∧
  ((k0_dev33 v0) < nD) ∧
  ((k0_dev36 v0) < nD) ∧
  ((k0_dev37 v0) < nD) ∧
  ((k0_dev40 v0) < nD) ∧
  ((k0_dev41 v0) < nD) ∧
  ((k0_dev44 v0) < nD) ∧
  ((k0_dev45 v0) < nD) ∧
  ((k0_dev48 v0) < nD) ∧
  ((k0_dev49 v0) < nD) ∧
  ((k0_dev52 v0) < nD) ∧
  ((k0_dev53 v0) < nD) ∧
  ((k0_dev56 v0) < nD) ∧
  ((k0_dev57 v0) < nD) ∧
  ((k0_dev60 v0) < nD) ∧
  ((k0_dev61 v0) < nD) ∧
  ((k0_dev64 v0) < nD)
def k0_chk1_1 (v0 : BitVec 32) : Prop :=
  ((k0_dev65 v0) < nD) ∧
  ((k0_dev68 v0) < nD) ∧
  ((k0_dev69 v0) < nD) ∧
  ((k0_dev72 v0) < nD) ∧
  ((k0_dev73 v0) < nD) ∧
  ((k0_dev76 v0) < nD) ∧
  ((k0_dev77 v0) < nD) ∧
  ((k0_dev80 v0) < nD) ∧
  ((k0_dev81 v0) < nD) ∧
  ((k0_dev84 v0) < nD) ∧
  ((k0_dev85 v0) < nD) ∧
  ((k0_dev88 v0) < nD) ∧
  ((k0_dev89 v0) < nD) ∧
  ((k0_dev92 v0) < nD) ∧
  ((k0_dev93 v0) < nD) ∧
  ((k0_dev96 v0) < nD) ∧
  ((k0_dev97 v0) < nD) ∧
  ((k0_dev100 v0) < nD) ∧
  ((k0_dev101 v0) < nD) ∧
  ((k0_dev104 v0) < nD) ∧
  ((k0_dev105 v0) < nD) ∧
  ((k0_dev108 v0) < nD) ∧
  ((k0_dev109 v0) < nD) ∧
  ((k0_dev112 v0) < nD) ∧
  ((k0_dev113 v0) < nD) ∧
  ((k0_dev116 v0) < nD) ∧
  ((k0_dev117 v0) < nD) ∧
  ((k0_dev120 v0) < nD) ∧
  ((k0_dev122 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_dev4_lt : ∀ (v0 : BitVec 32) (k0_hw1 : k0_chk1 v0), (k0_dev4 v0) < nD := fun v0 k0_hw1 => k0_hw1.1.2.1
theorem k0_dev5_lt : ∀ (v0 : BitVec 32) (k0_hw1 : k0_chk1 v0), (k0_dev5 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev9_lt : ∀ (v0 : BitVec 32) (k0_hw1 : k0_chk1 v0), (k0_dev9 v0) < nD := fun v0 k0_hw1 => k0_hw1.1.2.2.2.2.1
theorem k0_dev12_lt : ∀ (v0 : BitVec 32) (k0_hw1 : k0_chk1 v0), (k0_dev12 v0) < nD := fun v0 k0_hw1 => k0_hw1.1.2.2.2.2.2.1
theorem k0_dev13_lt : ∀ (v0 : BitVec 32) (k0_hw1 : k0_chk1 v0), (k0_dev13 v0) < nD := fun v0 k0_hw1 => k0_hw1.1.2.2.2.2.2.2.1
theorem k0_dev16_lt : ∀ (v0 : BitVec 32) (k0_hw1 : k0_chk1 v0), (k0_dev16 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.1
theorem k0_dev24_lt : ∀ (v0 : BitVec 32) (k0_hw1 : k0_chk1 v0), (k0_dev24 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.1
theorem k0_dev48_lt : ∀ (v0 : BitVec 32) (k0_hw1 : k0_chk1 v0), (k0_dev48 v0) < nD := fun v0 k0_hw1 => k0_hw1.1.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.1
theorem k0_dev64_lt : ∀ (v0 : BitVec 32) (k0_hw1 : k0_chk1 v0), (k0_dev64 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1
theorem k0_dev68_lt : ∀ (v0 : BitVec 32) (k0_hw1 : k0_chk1 v0), (k0_dev68 v0) < nD := fun v0 k0_hw1 => k0_hw1.2.2.1
theorem k0_dev69_lt : ∀ (v0 : BitVec 32) (k0_hw1 : k0_chk1 v0), (k0_dev69 v0) < nD := fun v0 k0_hw1 => k0_hw1.2.2.2.1
theorem k0_dev72_lt : ∀ (v0 : BitVec 32) (k0_hw1 : k0_chk1 v0), (k0_dev72 v0) < nD := fun v0 k0_hw1 => k0_hw1.2.2.2.2.1
theorem k0_dev73_lt : ∀ (v0 : BitVec 32) (k0_hw1 : k0_chk1 v0), (k0_dev73 v0) < nD := fun v0 k0_hw1 => k0_hw1.2.2.2.2.2.1
theorem k0_dev76_lt : ∀ (v0 : BitVec 32) (k0_hw1 : k0_chk1 v0), (k0_dev76 v0) < nD := fun v0 k0_hw1 => k0_hw1.2.2.2.2.2.2.1
theorem k0_dev77_lt : ∀ (v0 : BitVec 32) (k0_hw1 : k0_chk1 v0), (k0_dev77 v0) < nD := fun v0 k0_hw1 => k0_hw1.2.2.2.2.2.2.2.1
theorem k0_dev80_lt : ∀ (v0 : BitVec 32) (k0_hw1 : k0_chk1 v0), (k0_dev80 v0) < nD := fun v0 k0_hw1 => k0_hw1.2.2.2.2.2.2.2.2.1
theorem k0_dev81_lt : ∀ (v0 : BitVec 32) (k0_hw1 : k0_chk1 v0), (k0_dev81 v0) < nD := fun v0 k0_hw1 => k0_hw1.2.2.2.2.2.2.2.2.2.1
theorem k0_dev84_lt : ∀ (v0 : BitVec 32) (k0_hw1 : k0_chk1 v0), (k0_dev84 v0) < nD := fun v0 k0_hw1 => k0_hw1.2.2.2.2.2.2.2.2.2.2.1
theorem k0_dev85_lt : ∀ (v0 : BitVec 32) (k0_hw1 : k0_chk1 v0), (k0_dev85 v0) < nD := fun v0 k0_hw1 => k0_hw1.2.2.2.2.2.2.2.2.2.2.2.1
theorem k0_dev88_lt : ∀ (v0 : BitVec 32) (k0_hw1 : k0_chk1 v0), (k0_dev88 v0) < nD := fun v0 k0_hw1 => k0_hw1.2.2.2.2.2.2.2.2.2.2.2.2.1
theorem k0_dev89_lt : ∀ (v0 : BitVec 32) (k0_hw1 : k0_chk1 v0), (k0_dev89 v0) < nD := fun v0 k0_hw1 => k0_hw1.2.2.2.2.2.2.2.2.2.2.2.2.2.1
theorem k0_dev92_lt : ∀ (v0 : BitVec 32) (k0_hw1 : k0_chk1 v0), (k0_dev92 v0) < nD := fun v0 k0_hw1 => k0_hw1.2.2.2.2.2.2.2.2.2.2.2.2.2.2.1
theorem k0_dev93_lt : ∀ (v0 : BitVec 32) (k0_hw1 : k0_chk1 v0), (k0_dev93 v0) < nD := fun v0 k0_hw1 => k0_hw1.2.2.2.2.2.2.2.2.2.2.2.2.2.2.2.1
theorem k0_dev96_lt : ∀ (v0 : BitVec 32) (k0_hw1 : k0_chk1 v0), (k0_dev96 v0) < nD := fun v0 k0_hw1 => k0_hw1.2.2.2.2.2.2.2.2.2.2.2.2.2.2.2.2.1
theorem k0_dev97_lt : ∀ (v0 : BitVec 32) (k0_hw1 : k0_chk1 v0), (k0_dev97 v0) < nD := fun v0 k0_hw1 => k0_hw1.2.2.2.2.2.2.2.2.2.2.2.2.2.2.2.2.2.1
theorem k0_dev100_lt : ∀ (v0 : BitVec 32) (k0_hw1 : k0_chk1 v0), (k0_dev100 v0) < nD := fun v0 k0_hw1 => k0_hw1.2.2.2.2.2.2.2.2.2.2.2.2.2.2.2.2.2.2.1
theorem k0_dev101_lt : ∀ (v0 : BitVec 32) (k0_hw1 : k0_chk1 v0), (k0_dev101 v0) < nD := fun v0 k0_hw1 => k0_hw1.2.2.2.2.2.2.2.2.2.2.2.2.2.2.2.2.2.2.2.1
theorem k0_dev104_lt : ∀ (v0 : BitVec 32) (k0_hw1 : k0_chk1 v0), (k0_dev104 v0) < nD := fun v0 k0_hw1 => k0_hw1.2.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.2.2.2.2.2.2.2.2.2.2.2.2.2.2.2.2.2.2.2.2.2.1
theorem k0_dev109_lt : ∀ (v0 : BitVec 32) (k0_hw1 : k0_chk1 v0), (k0_dev109 v0) < nD := fun v0 k0_hw1 => k0_hw1.2.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.2.2.2.2.2.2.2.2.2.2.2.2.2.2.2.2.2.2.2.2.2.2.2.2.2.2.1
theorem k0_dev120_lt : ∀ (v0 : BitVec 32) (k0_hw1 : k0_chk1 v0), (k0_dev120 v0) < nD := fun v0 k0_hw1 => k0_hw1.2.2.2.2.2.2.2.2.2.2.2.2.2.2.2.2.2.2.2.2.2.2.2.2.2.2.2.2.1
theorem k0_dev122_lt : ∀ (v0 : BitVec 32) (k0_hw1 : k0_chk1 v0), (k0_dev122 v0) < nD := fun v0 k0_hw1 => k0_hw1.2.2.2.2.2.2.2.2.2.2.2.2.2.2.2.2.2.2.2.2.2.2.2.2.2.2.2.2.2

def k0_off63 (v2510 : BitVec 32) : Fin 2 → Nat :=
  let c256_i32_2829 : BitVec 32 := 256#32
  let v2511 : BitVec 32 := Scalar.muli v2510 c256_i32_2829
  let v2512 : Index := Scalar.indexCast v2511
  let c0_2830 : Index := 0#32
  ![v2512.toNat, 0]

def k0_chk65 (v2510 : BitVec 32) : Prop :=
  (∀ a, (k0_off63 v2510) a + S256x256.size a ≤ S8192x256.size a)
theorem k0_off63_inb : ∀ (v2510 : BitVec 32) (k0_hw65 : k0_chk65 v2510), ∀ a, (k0_off63 v2510) a + S256x256.size a ≤ S8192x256.size a := fun v2510 k0_hw65 => k0_hw65

def k0_off64 (v2517 : BitVec 32) : Fin 2 → Nat :=
  let c256_i32_2836 : BitVec 32 := 256#32
  let v2518 : BitVec 32 := Scalar.muli v2517 c256_i32_2836
  let v2519 : Index := Scalar.indexCast v2518
  let c0_2837 : Index := 0#32
  ![v2519.toNat, 0]

def k0_chk66 (v2517 : BitVec 32) : Prop :=
  (∀ a, (k0_off64 v2517) a + S256x256.size a ≤ S8192x256.size a)
theorem k0_off64_inb : ∀ (v2517 : BitVec 32) (k0_hw66 : k0_chk66 v2517), ∀ a, (k0_off64 v2517) a + S256x256.size a ≤ S8192x256.size a := fun v2517 k0_hw66 => k0_hw66

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Program.lean ====
/-
  The kernel's body written once per kind of statement. The printed body is thirty-one unrolled steps; here a step is a
  composition of four pieces (`gate`, `comm`, `release`, `accum`, with `last` in place of the last two at the end), each
  over the slot it uses and the column of the table it reads, and `body_eq` says that the printed body is the composition.
-/
module

public import proofs.«01_k».proof.Proof.Gen.KernelIdeal
public import proofs.«01_k».proof.Proof.Gen.KernelIdeal.Skeleton

@[expose] public section

noncomputable section

namespace Cert.Ring

open Cert.KernelIdeal Cert.KernelIdeal.Gen
open Idealize.ShloMosaic Idealize.SL.Sem

variable {F : FTy → Type} [FloatOps F]

/-! ## The buffers and semaphores the body is given -/

/-- The device's `x`, its `w`, the table of chunks, and the result's buffer. -/
abbrev xM : Memref sig .tc .vmem S8192x256 .bf16 := Memref.whole cc0_stg0_0
abbrev wM : Memref sig .tc .vmem S256x4096 .bf16 := Memref.whole cc0_stg1_0
abbrev tM : Memref sig .tc .smem S2x32 .i32 := Memref.whole cc0_stg2_0
abbrev oM : Memref sig .tc .vmem S256x4096 .f32 := Memref.whole cc0_stg3_0
/-- The copy of `w`; the two-slot buffers sent from and received into, to the right and to the left. -/
abbrev wbM : Memref sig .tc .vmem S256x4096 .bf16 := Memref.whole cc0_scratch0
abbrev sfM : Memref sig .tc .vmem S2x256x2048 .bf16 := Memref.whole cc0_scratch1
abbrev rfM : Memref sig .tc .vmem S2x256x2048 .bf16 := Memref.whole cc0_scratch2
abbrev sbM : Memref sig .tc .vmem S2x256x2048 .bf16 := Memref.whole cc0_scratch3
abbrev rbM : Memref sig .tc .vmem S2x256x2048 .bf16 := Memref.whole cc0_scratch4

/-! ## Slots and rectangles -/

theorem inb_slot (b : Fin 2) : ∀ a, (![b.val, 0, 0] : Fin 3 → Nat) a + S1x256x2048.size a ≤ S2x256x2048.size a := by
  fin_cases b
  · exact inb_S2x256x2048_S1x256x2048_0_0_0
  · exact inb_S2x256x2048_S1x256x2048_1_0_0

/-- Slot `b` of a two-slot buffer. -/
abbrev slotR (b : Fin 2) : Rect S2x256x2048 := Rect.unit (s := S2x256x2048) ![b.val, 0, 0] S1x256x2048.size (inb_slot b)

theorem words_slot (b : Fin 2) : (slotR b).WholeWords (EltTy.packing .bf16) := by
  fin_cases b
  · exact wordsbf16_S2x256x2048_S1x256x2048_0_0_0
  · exact wordsbf16_S2x256x2048_S1x256x2048_1_0_0
theorem packed_slot (b : Fin 2) : (slotR b).PackedRows (EltTy.packing .bf16) := by
  fin_cases b
  · exact packedbf16_S2x256x2048_S1x256x2048_0_0_0
  · exact packedbf16_S2x256x2048_S1x256x2048_1_0_0

/-- Slot `b` of the two-slot buffer `M`, as the matrix a transfer moves. -/
abbrev slotM (M : Memref sig .tc .vmem S2x256x2048 .bf16) (b : Fin 2) : Memref sig .tc .vmem S256x2048 .bf16 :=
  (M.slice (slotR b) (fun _ => rfl)).squeeze S256x2048 squeezes_S1x256x2048_S256x2048

theorem inb_sem (b : Fin 2) : ∀ a, (![b.val] : Fin 1 → Nat) a + S1.size a ≤ S2.size a := by
  fin_cases b
  · exact inb_S2_S1_0
  · exact inb_S2_S1_1

/-- Semaphore `b` of a pair. -/
abbrev pairS (A : DmaSems sig S2) (b : Fin 2) : DmaSem sig :=
  ((A.slice (Rect.unit (s := S2) ![b.val] S1.size (inb_sem b))).squeeze S_ squeezes_S1_S_).sem

abbrev ssF (b : Fin 2) : DmaSem sig := pairS cc0_scratch5 b
abbrev rsF (b : Fin 2) : DmaSem sig := pairS cc0_scratch6 b
abbrev ssB (b : Fin 2) : DmaSem sig := pairS cc0_scratch7 b
abbrev rsB (b : Fin 2) : DmaSem sig := pairS cc0_scratch8 b
abbrev crF : Sem sig := (cc0_scratch9 : Sems sig S_).sem
abbrev crB : Sem sig := (cc0_scratch10 : Sems sig S_).sem
abbrev barS : Sem sig := (SemArray.scalar (sig.barrier 0 rfl) : Sems sig S_).sem

theorem inb_col (a : Fin 2) (j : ℕ) : ∀ i, (![a.val, j % 32] : Fin 2 → Nat) i + S1x1.size i ≤ S2x32.size i := by
  have : j % 32 < 32 := Nat.mod_lt _ (by decide)
  have ha := a.isLt
  intro i; fin_cases i <;> simp [S1x1, S2x32] <;> omega

/-- Word `(a, j)` of the table. -/
abbrev colR (a : Fin 2) (j : ℕ) : Rect S2x32 := Rect.unit (s := S2x32) ![a.val, j % 32] S1x1.size (inb_col a j)

abbrev wR : Rect S256x4096 := Rect.unit (s := S256x4096) ![0, 0] S256x4096.size inb_S256x4096_S256x4096_0_0
/-- The left and the right half of the columns. -/
abbrev loR : Rect S256x4096 := Rect.unit (s := S256x4096) ![0, 0] S256x2048.size inb_S256x4096_S256x2048_0_0
abbrev hiR : Rect S256x4096 := Rect.unit (s := S256x4096) ![0, 2048] S256x2048.size inb_S256x4096_S256x2048_0_2048

/-- The chunk of `x` the word `v` names. -/
abbrev chunkR (v : BitVec 32) (h : k0_chk3 v) : Rect S8192x256 := Rect.unit (s := S8192x256) (k0_off1 v) S256x256.size (k0_off1_inb v h)

/-! ## The pieces -/

abbrev P (F : FTy → Type) [FloatOps F] : Type 1 := Prog (TpuEff nD τ sig (Elt F) Λ₀ .tc) PUnit

/-- Read word `(a, j)` of the table, and the chunk of `x` and the half of `w` it says to multiply. -/
def fetch (a : Fin 2) (j : ℕ) (hR : Rect S256x4096) (hh : hR.shape = S256x2048) (hl : wbM.view.LoadsAt hR.toLoadRect)
    (k : Vec F S256x256 .bf16 → (hR.shape.Idx → Elt F .bf16) → P F) : P F :=
  .op (.load tM (colR a j) (View.loadsAt_rect (View.loads_smem_one rfl numel1_S1x1))) fun f =>
  let v : BitVec 32 := f (Shape.Idx.first (numel1_S1x1.symm ▸ Nat.one_pos))
  .op (.assume (k0_chk3 v) (k0_chk3.dec v)) fun h =>
  .op (.load xM (chunkR v h.down).toLoadRect (View.loadsAt_vmem h_S256x256)) fun x =>
  .op (.load wbM hR.toLoadRect hl) fun w => k x w

/-- Start the transfer of slot `b` to the right neighbour. -/
def sendF (v1 : BitVec 32) (h1 : k0_chk2 v1) (b : Fin 2) (k : P F) : P F :=
  .op (.enqueueDma (slotM sfM b) (.remote (Dev.tc (⟨k0_dev3 v1, k0_dev3_lt v1 h1⟩ : Dev nD)) (slotM rfM b) (.dma (ssF b))) (.dma (rsF b))
    (((Memref.isWhole_whole cc0_scratch1).wordExact_slice rfl _ (words_slot b)).reshape _ _)
    (((Memref.isWhole_whole cc0_scratch2).wordExact_slice rfl _ (words_slot b)).reshape _ _) ⟨⟨rfl, Or.inl rfl⟩, trivial⟩) fun _ => k

/-- Start the transfer of slot `b` to the left neighbour. -/
def sendB (v0 : BitVec 32) (h0 : k0_chk1 v0) (b : Fin 2) (k : P F) : P F :=
  .op (.enqueueDma (slotM sbM b) (.remote (Dev.tc (⟨k0_dev4 v0, k0_dev4_lt v0 h0⟩ : Dev nD)) (slotM rbM b) (.dma (ssB b))) (.dma (rsB b))
    (((Memref.isWhole_whole cc0_scratch3).wordExact_slice rfl _ (words_slot b)).reshape _ _)
    (((Memref.isWhole_whole cc0_scratch4).wordExact_slice rfl _ (words_slot b)).reshape _ _) ⟨⟨rfl, Or.inl rfl⟩, trivial⟩) fun _ => k

/-- The four waits of a step: both transfers sent, both received. -/
def waits (b : Fin 2) (k : P F) : P F :=
  .op (.waitDma2 (ssF b) (slotM rfM b) (slotM sfM b)
    (((Memref.isWhole_whole cc0_scratch2).wordExact_slice rfl _ (words_slot b)).reshape _ _)
    (((Memref.isWhole_whole cc0_scratch1).wordExact_slice rfl _ (words_slot b)).reshape _ _)) fun _ =>
  .op (.waitDma2 (rsF b) (slotM sfM b) (slotM rfM b)
    (((Memref.isWhole_whole cc0_scratch1).wordExact_slice rfl _ (words_slot b)).reshape _ _)
    (((Memref.isWhole_whole cc0_scratch2).wordExact_slice rfl _ (words_slot b)).reshape _ _)) fun _ =>
  .op (.waitDma2 (ssB b) (slotM rbM b) (slotM sbM b)
    (((Memref.isWhole_whole cc0_scratch4).wordExact_slice rfl _ (words_slot b)).reshape _ _)
    (((Memref.isWhole_whole cc0_scratch3).wordExact_slice rfl _ (words_slot b)).reshape _ _)) fun _ =>
  .op (.waitDma2 (rsB b) (slotM sbM b) (slotM rbM b)
    (((Memref.isWhole_whole cc0_scratch3).wordExact_slice rfl _ (words_slot b)).reshape _ _)
    (((Memref.isWhole_whole cc0_scratch4).wordExact_slice rfl _ (words_slot b)).reshape _ _)) fun _ => k

/-- A step's transfers, the two products computed under them, and the waits. -/
def comm (v0 v1 : BitVec 32) (h0 : k0_chk1 v0) (h1 : k0_chk2 v1) (b : Fin 2) (j : ℕ)
    (k : FVec F S256x2048 .f32 → FVec F S256x2048 .f32 → P F) : P F :=
  sendF v1 h1 b <| sendB v0 h0 b <|
  fetch 0 j loR rfl (View.loadsAt_vmem h_S256x2048) fun x w =>
  fetch 1 j hiR rfl (View.loadsAt_vmem h_S256x2048) fun x' w' =>
  waits b (k (k0_pay4 x w) (k0_pay4 x' w'))

/-- From the third step on, wait for one unit from each neighbour. -/
def gate : ℕ → P F → P F
  | 0, k => k
  | 1, k => k
  | _ + 2, k => .op (.semWait crF (1#32 : BitVec 32).toInt) fun _ => .op (.semWait crB (1#32 : BitVec 32).toInt) fun _ => k

/-- Give each neighbour one unit. -/
def release (v0 v1 : BitVec 32) (h0 : k0_chk1 v0) (h1 : k0_chk2 v1) (k : P F) : P F :=
  .op (.semSignal (Dev.tc (⟨k0_dev5 v0, k0_dev5_lt v0 h0⟩ : Dev nD)) crF (1#32 : BitVec 32).toInt) fun _ =>
  .op (.semSignal (Dev.tc (⟨k0_dev6 v1, k0_dev6_lt v1 h1⟩ : Dev nD)) crB (1#32 : BitVec 32).toInt) fun _ => k

/-- Store a message into slot `b` of the two-slot buffer `M`, after the load the store is printed with. -/
def put (M : Memref sig .tc .vmem S2x256x2048 .bf16) (hM : M.IsWhole) (b : Fin 2) (w : FVec F S1x256x2048 .bf16) (k : P F) : P F :=
  .op (.load M (slotR b).toLoadRect (View.loadsAt_vmem h_S1x256x2048)) fun _ =>
  .op (.store M (slotR b) w Finset.univ (View.stores_vmem h_S1x256x2048 (hM.storeExact_slice rfl _ (packed_slot b)) (fun _ => rfl)) (.inl rfl))
    fun _ => k

/-- Read what arrived in slot `b` on both sides. -/
def take (b : Fin 2) (k : Vec F S1x256x2048 .bf16 → Vec F S1x256x2048 .bf16 → P F) : P F :=
  .op (.load rfM (slotR b).toLoadRect (View.loadsAt_vmem h_S1x256x2048)) fun r =>
  .op (.load rbM (slotR b).toLoadRect (View.loadsAt_vmem h_S1x256x2048)) fun r' => k r r'

/-- Add what arrived in slot `b` to the products and put the sums into slot `b'` to send. -/
def accum (b b' : Fin 2) (p p' : FVec F S256x2048 .f32) (k : P F) : P F :=
  take b fun r r' =>
  put sfM (Memref.isWhole_whole _) b' (k0_pay8 p r) <|
  put sbM (Memref.isWhole_whole _) b' (k0_pay8 p' r') k

/-- Store one half of the result. -/
def putO (hR : Rect S256x4096) (hn : hR.shape = S256x2048) (w : hR.shape.Idx → Elt F .f32)
    (hl : oM.view.LoadsAt hR.toLoadRect) (hs : (oM.access hR).Stores Finset.univ) (k : P F) : P F :=
  .op (.load oM hR.toLoadRect hl) fun _ => .op (.store oM hR w Finset.univ hs (.inl rfl)) fun _ => k

/-- Add what arrived in slot `b` to the products and store the result. -/
def last (b : Fin 2) (p p' : FVec F S256x2048 .f32) : P F :=
  take b fun r r' =>
  putO loR rfl (k0_pay145 p r) (View.loadsAt_vmem h_S256x2048) (View.stores_vmem_bits_univ h_S256x2048 rfl) <|
  putO hiR rfl (k0_pay145 p' r') (View.loadsAt_vmem h_S256x2048) (View.stores_vmem_bits_univ h_S256x2048 rfl) (.ret ⟨⟩)

/-- The slot of step `s`. -/
abbrev sl (s : ℕ) : Fin 2 := ⟨s % 2, Nat.mod_lt _ (by decide)⟩

/-- The steps from `s` on, with `n` steps after it: the last gives the result, the last but one gives no unit. -/
def steps (v0 v1 : BitVec 32) (h0 : k0_chk1 v0) (h1 : k0_chk2 v1) : ℕ → ℕ → P F
  | 0, s => gate s <| comm v0 v1 h0 h1 (sl s) (s + 1) fun p p' => last (sl s) p p'
  | 1, s => gate s <| comm v0 v1 h0 h1 (sl s) (s + 1) fun p p' => accum (sl s) (sl (s + 1)) p p' (steps v0 v1 h0 h1 0 (s + 1))
  | n + 2, s => gate s <| comm v0 v1 h0 h1 (sl s) (s + 1) fun p p' => release v0 v1 h0 h1 <|
      accum (sl s) (sl (s + 1)) p p' (steps v0 v1 h0 h1 (n + 1) (s + 1))

/-- Before the steps: copy `w`, and put the first products into slot 0. -/
def fill (k : P F) : P F :=
  .op (.load wM wR.toLoadRect (View.loadsAt_vmem h_S256x4096)) fun w =>
  .op (.load wbM wR.toLoadRect (View.loadsAt_vmem h_S256x4096)) fun _ =>
  .op (.store wbM wR (k0_pay1 w) Finset.univ (View.stores_vmem h_S256x4096
    ((Memref.isWhole_whole cc0_scratch0).storeExact_slice rfl _ packedbf16_S256x4096_S256x4096_0_0) (fun _ => rfl)) (.inl rfl)) fun _ =>
  fetch 0 0 loR rfl (View.loadsAt_vmem h_S256x2048) fun x w =>
  put sfM (Memref.isWhole_whole _) 0 (k0_pay2 x w) <|
  fetch 1 0 hiR rfl (View.loadsAt_vmem h_S256x2048) fun x' w' =>
  put sbM (Memref.isWhole_whole _) 0 (k0_pay2 x' w') k

/-- The handshake: a unit to each neighbour's barrier, and one from each. -/
def shake (v0 v1 : BitVec 32) (h0 : k0_chk1 v0) (h1 : k0_chk2 v1) (k : P F) : P F :=
  .op (.semSignal (Dev.tc (⟨k0_dev1 v0, k0_dev1_lt v0 h0⟩ : Dev nD)) barS (1#32 : BitVec 32).toInt) fun _ =>
  .op (.semSignal (Dev.tc (⟨k0_dev2 v1, k0_dev2_lt v1 h1⟩ : Dev nD)) barS (1#32 : BitVec 32).toInt) fun _ =>
  .op (.semWait barS (2#32 : BitVec 32).toInt) fun _ => k

/-- Read the two neighbours from the table. -/
def ends (k : (v0 v1 : BitVec 32) → k0_chk1 v0 → k0_chk2 v1 → P F) : P F :=
  .op (.load tM (colR 0 0) (View.loadsAt_rect (View.loads_smem_one rfl numel1_S1x1))) fun f =>
  let v0 : BitVec 32 := f (Shape.Idx.first (numel1_S1x1.symm ▸ Nat.one_pos))
  .op (.assume (k0_chk1 v0) (k0_chk1.dec v0)) fun h0 =>
  .op (.load tM (colR 1 0) (View.loadsAt_rect (View.loads_smem_one rfl numel1_S1x1))) fun f' =>
  let v1 : BitVec 32 := f' (Shape.Idx.first (numel1_S1x1.symm ▸ Nat.one_pos))
  .op (.assume (k0_chk2 v1) (k0_chk2.dec v1)) fun h1 => k v0 v1 h0.down h1.down

def prog : P F := ends fun v0 v1 h0 h1 => shake v0 v1 h0 h1 <| fill <| steps v0 v1 h0 h1 30 0

set_option maxRecDepth 65536 in
set_option maxHeartbeats 4000000 in
/-- The printed body is the composition. -/
theorem body_eq : cc0_body (F := F) xM (Memref.isWhole_whole _) wM (Memref.isWhole_whole _) tM (Memref.isWhole_whole _) oM (Memref.isWhole_whole _)
    wbM (Memref.isWhole_whole _) sfM (Memref.isWhole_whole _) rfM (Memref.isWhole_whole _) sbM (Memref.isWhole_whole _) rbM (Memref.isWhole_whole _)
    cc0_scratch5 cc0_scratch6 cc0_scratch7 cc0_scratch8 cc0_scratch9 cc0_scratch10 = prog := rfl

end Cert.Ring
-- ==== Proof.Table.lean ====
/-
  The ring the 32 devices stand in, and the table of chunks that the host code of a device works out.
-/
module

public import proofs.«01_k».proof.Proof.Program
public import proofs.«01_k».proof.Proof.Gen.KernelIdeal.Regions
public import Idealize.ShloMosaic.Lib.StableHlo.RunRead
public import Idealize.ShloMosaic.Lib.StableHlo.Predicate
public import Idealize.ShloMosaic.Lib.Pipeline.Value

@[expose] public section

noncomputable section

namespace Cert.Ring

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## The ring -/

/-- The device at each place of the ring. -/
def dev : Fin 32 → Dev nD :=
  ![0, 1, 2, 3, 4, 5, 6, 7, 15, 14, 13, 12, 11, 10, 18, 19, 20, 21, 22, 23, 31, 30, 29, 28, 27, 26, 25, 24, 16, 17, 9, 8]
/-- The place of each device. -/
def place : Dev nD → Fin 32 :=
  ![0, 1, 2, 3, 4, 5, 6, 7, 31, 30, 13, 12, 11, 10, 9, 8, 28, 29, 14, 15, 16, 17, 18, 19, 27, 26, 25, 24, 23, 22, 21, 20]

theorem dev_place (c : Dev nD) : dev (place c) = c := by revert c; decide
theorem place_dev (r : Fin 32) : place (dev r) = r := by revert r; decide

/-- The neighbour to the right and to the left of a device. -/
def R (c : Dev nD) : Dev nD := dev (place c + 1)
def L (c : Dev nD) : Dev nD := dev (place c - 1)

theorem R_L (c : Dev nD) : R (L c) = c := by unfold R L; rw [place_dev, show place c - 1 + 1 = place c by generalize place c = r; revert r; decide, dev_place]
theorem L_R (c : Dev nD) : L (R c) = c := by unfold R L; rw [place_dev, show place c + 1 - 1 = place c by generalize place c = r; revert r; decide, dev_place]
theorem R_ne (c : Dev nD) : R c ≠ c := by revert c; decide
theorem L_ne (c : Dev nD) : L c ≠ c := by revert c; decide
theorem R_ne_L (c : Dev nD) : R c ≠ L c := by revert c; decide

/-- The ring turned by one place. -/
def turn : Dev nD ≃ Dev nD := ⟨R, L, L_R, R_L⟩

/-- The chunk that row `a` of device `c`'s table names in column `j`. -/
def chunk (a : Fin 2) (c : Dev nD) (j : ℕ) : Dev nD :=
  if a = 0 then dev (place c - 1 - Fin.ofNat 32 j) else dev (place c + 1 + Fin.ofNat 32 j)

/-! ## What the host code works out -/

/-- The remainder that takes the sign of the divisor, as the host computes it. -/
def remV (d : IVec S_ 32) (v : IVec S32 32) : IVec S32 32 :=
  let d' : IVec S_ 32 := select (cmpi .eq d (constantI S_ 32 0#32)) (constantI S_ 32 1#32) d
  let q : IVec S32 32 := Host.remsi v (broadcastInDim S32 ![] bcast_S_S32 d')
  let z : IVec S32 32 := broadcastInDim S32 ![] bcast_S_S32 (constantI S_ 32 0#32)
  select (andi (cmpi .ne (cmpi .slt q z) (broadcastInDim S32 ![] bcast_S_S32 (cmpi .slt d' (constantI S_ 32 0#32)))) (cmpi .ne q z))
    (addi q (broadcastInDim S32 ![] bcast_S_S32 d')) q

/-- The entries of `a` at the words `v`, a negative word counted from the end. -/
def lookV (a v : IVec S32 32) : IVec S32 32 :=
  Host.gather gather_S32_S32x1_S32_n_0_n_n_0_1_1 a (broadcastInDim S32x1 ![0] bcast_S32_S32x1_0
    (select (cmpi .slt v (broadcastInDim S32 ![] bcast_S_S32 (constantI S_ 32 0#32)))
      (addi v (broadcastInDim S32 ![] bcast_S_S32 (constantI S_ 32 32#32))) v))

section
variable (V : Valuation τ sig (Elt F))

theorem v14_at : StableHlo.after hostOps0_1 V main_v14 = remV (V main_c_6) (V main_v13) := by
  after_results_simp
  simp only [StableHlo.TRef.ofBuf_toBuf]
  rfl
theorem v25_at : StableHlo.after hostOps0_3 V main_v25 = remV (V main_c_10) (V main_v24) := by
  after_results_simp
  simp only [StableHlo.TRef.ofBuf_toBuf]
  rfl
theorem v21_at : StableHlo.after hostOps0_2 V main_v21 = lookV (V main_c) (V main_v14) := by
  after_results_simp; rfl
theorem v24_at : StableHlo.after hostOps0_2 V main_v24 = addi (broadcastInDim S32 ![] bcast_S_S32 (addi (V main_v9) (constantI S_ 32 1#32))) (V main_v10) := by
  after_results_simp
theorem c10_at : StableHlo.after hostOps0_2 V main_c_10 = constantI S_ 32 32#32 := by
  after_results_simp
theorem v33_at : StableHlo.after hostOps0_4 V main_v33 = broadcastInDim S1x32 ![1] bcast_S32_S1x32_1 (V main_v21) := by
  after_results_simp
theorem v34_at : StableHlo.after hostOps0_4 V main_v34 = broadcastInDim S1x32 ![1] bcast_S32_S1x32_1 (lookV (V main_c) (V main_v25)) := by
  after_results_simp; rfl
theorem v35_at : StableHlo.after hostOps0_4 V main_v35
    = concatenate S2x32 0 [⟨S1x32, StableHlo.after hostOps0_4 V main_v33⟩, ⟨S1x32, StableHlo.after hostOps0_4 V main_v34⟩] concatenates_S1x32_S1x32_S2x32_d0 := by
  simp only [StableHlo.after_cons, StableHlo.after_nil]
  rw [StableHlo.binary_result']
  rfl

theorem v10_at (c : Dev nD) : StableHlo.after (hostOps0 c) V main_v10 = iotaInDim S32 32 0 := by
  after_results_simp
theorem c_at (c : Dev nD) : StableHlo.after (hostOps0 c) V main_c = fun i => lit0 (S32.rowMajor i) := by
  after_results_simp; rfl
theorem c6_at (c : Dev nD) : StableHlo.after (hostOps0 c) V main_c_6 = constantI S_ 32 32#32 := by
  after_results_simp

/-- A word as a tensor of one entry. -/
abbrev one32 (w : BitVec 32) : IVec S_ 32 := constantI S_ 32 w

/-- The device's place on the mesh axis, as the host computes it. -/
def placeV (c : Dev nD) : IVec S_ 32 :=
  let p : IVec S_ 32 := Host.remui (Host.divui (one32 (Dev.word c)) (one32 1#32)) (one32 32#32)
  select (cmpi .slt p (one32 0#32)) (addi p (one32 32#32)) p

theorem v7_at (c : Dev nD) : StableHlo.after (hostOps0 c) V main_v7 = placeV c := by
  after_results_simp
  rfl
theorem c0_at (c : Dev nD) : StableHlo.after (hostOps0 c) V main_c_0 = fun i => lit1 (S32.rowMajor i) := by
  after_results_simp; rfl
theorem v9_at (c : Dev nD) : StableHlo.after (hostOps0 c) V main_v9
    = shapeCast S_ (Host.dynamicSlice S1 (fun i => lit1 (S32.rowMajor i)) (fun _ => (placeV c (Shape.Idx.first h_S_)).toInt) sliceFits_S32_S1 : IVec S1 32) shapeCasts_S1_S_ := by
  have h7 : StableHlo.upto (hostOps0 c) V 13 (Proc.devRef .tc main_v7) = placeV c := by after_reads_simp; rfl
  after_reads_simp
  refine congrArg (fun z : Fin 1 → Int => shapeCast S_ (Host.dynamicSlice S1 (fun i => lit1 (S32.rowMajor i)) z sliceFits_S32_S1 : IVec S1 32) shapeCasts_S1_S_) ?_
  funext k
  fin_cases k
  exact congrArg (fun z : IVec S_ 32 => (z (Shape.Idx.first h_S_)).toInt) h7
theorem v13_at (c : Dev nD) : StableHlo.after (hostOps0 c) V main_v13
    = subi (broadcastInDim S32 ![] bcast_S_S32 (subi (StableHlo.after (hostOps0 c) V main_v9) (one32 1#32))) (iotaInDim S32 32 0) := by
  generalize h : StableHlo.after (hostOps0 c) V main_v9 = w
  rw [← h]
  after_results_simp

/-- Entry `j` of a row of 32, and word `(a, j)` of the table. -/
abbrev at1 (j : Fin 32) : S32.Idx := Shape.Idx.ofFin j
def at2 (a : Fin 2) (j : Fin 32) : S2x32.Idx := fun | ⟨0, _⟩ => a | ⟨1, _⟩ => j

theorem lit0_word (k : Fin 32) : lit0 k = BitVec.ofNat 32 (dev k) := by revert k; decide +kernel
theorem lit1_word (c : Dev nD) : lit1 c = BitVec.ofNat 32 (place c) := by revert c; decide +kernel

/-- The remainder, and the entry a word names, of a single word. -/
def remW (x : BitVec 32) : BitVec 32 := remV (one32 32#32) (fun _ => x) (at1 0)
def entW (x : BitVec 32) : ℕ :=
  (select (cmpi .slt (one32 x) (constantI S_ 32 0#32)) (addi (one32 x) (constantI S_ 32 32#32)) (one32 x) (Shape.Idx.first h_S_)).toInt.toNat

theorem remV_at (v : IVec S32 32) (i : S32.Idx) : remV (one32 32#32) v i = remW (v i) := by
  simp only [remW, remV, select, andi, cmpi, addi, Host.remsi, broadcastInDim, constantI]

theorem lookV_at (v : IVec S32 32) (j k : Fin 32) (h : entW (v (at1 j)) = k.val) :
    lookV (fun i => lit0 (S32.rowMajor i)) v (at1 j) = BitVec.ofNat 32 (dev k) := by
  unfold lookV
  rw [StableHlo.Predicate.gather_take _ rfl rfl rfl rfl _ _ _ (by decide), ← lit0_word]
  congr 1
  apply Fin.ext
  have hr : ∀ q : Fin 32, (S32.rowMajor (Shape.Idx.ofFin q)).val = q.val := fun q => Shape.rowMajor_val_one _
  rw [hr]
  show min (entW (v _)) 31 = k.val
  have hj : ∀ q : S32.Idx, q 0 = j → v q = v (at1 j) := fun q hq => congrArg v (funext fun a => by fin_cases a; exact hq)
  rw [hj _ rfl, h]
  omega

theorem entW_lo (r j : Fin 32) : entW (remW (Scalar.subi (Scalar.subi (BitVec.ofNat 32 r) 1#32) (BitVec.ofNat 32 j))) = (r - 1 - j).val := by
  revert r j; decide +kernel
theorem entW_hi (r j : Fin 32) : entW (remW (Scalar.addi (Scalar.addi (BitVec.ofNat 32 r) 1#32) (BitVec.ofNat 32 j))) = (r + 1 + j).val := by
  revert r j; decide +kernel

theorem place_word (c : Dev nD) :
    shapeCast S_ (Host.dynamicSlice S1 (fun i => lit1 (S32.rowMajor i)) (fun _ => (placeV c (Shape.Idx.first h_S_)).toInt) sliceFits_S32_S1 : IVec S1 32) shapeCasts_S1_S_
      = one32 (BitVec.ofNat 32 (place c)) := by
  funext i
  show lit1 (S32.rowMajor _) = _
  rw [← lit1_word]
  show _ = lit1 c
  congr 1
  apply Fin.ext
  refine (Shape.rowMajor_val_one _).trans ?_
  have h : ∀ c : Dev nD, (min (max (placeV c (Shape.Idx.first h_S_)).toInt 0) ((32 - 1 : ℕ) : Int)).toNat = c.val := by decide +kernel
  have hlt : ∀ q : S1.Idx, (q 0).val = 0 := fun q => Nat.lt_one_iff.mp (q 0).isLt
  exact congrArg₂ (· + ·) (h c) (hlt _)

theorem row_bcast (v : IVec S32 32) (j : Fin 32) : broadcastInDim S1x32 ![1] bcast_S32_S1x32_1 v (StableHlo.Predicate.i1q j) = v (at1 j) :=
  congrArg v (funext fun a => by fin_cases a; rfl)

theorem pair_left (x y : IVec S1x32 32) (j : Fin 32) :
    concatenate S2x32 0 [⟨S1x32, x⟩, ⟨S1x32, y⟩] concatenates_S1x32_S1x32_S2x32_d0 (at2 0 j) = x (StableHlo.Predicate.i1q j) :=
  concatenate_pair_apply_left (t := S2x32) (s₁ := S1x32) (s₂ := S1x32) 0 x y _ (at2 0 j) rfl (StableHlo.Predicate.i1q j) fun b => by
    fin_cases b <;> rfl
theorem pair_right (x y : IVec S1x32 32) (j : Fin 32) :
    concatenate S2x32 0 [⟨S1x32, x⟩, ⟨S1x32, y⟩] concatenates_S1x32_S1x32_S2x32_d0 (at2 1 j) = y (StableHlo.Predicate.i1q j) :=
  concatenate_pair_apply_right (t := S2x32) (s₁ := S1x32) (s₂ := S1x32) 0 x y _ (at2 1 j) rfl rfl (StableHlo.Predicate.i1q j) (fun b hb => by
    fin_cases b
    · exact absurd rfl hb
    · rfl) rfl

theorem row0_at (j : Fin 32) : (StableHlo.after hostOps0_4 V main_v35 : S2x32.Idx → BitVec 32) (at2 0 j) = (V main_v21 : S32.Idx → BitVec 32) (at1 j) := by
  rw [v35_at, v33_at]
  exact (pair_left _ _ j).trans (row_bcast _ j)
theorem row1_at (j : Fin 32) : (StableHlo.after hostOps0_4 V main_v35 : S2x32.Idx → BitVec 32) (at2 1 j) = lookV (V main_c) (V main_v25) (at1 j) := by
  rw [v35_at, v34_at]
  exact (pair_right _ _ j).trans (row_bcast _ j)

end

variable (m : (ℓ : Loc nD τ sig) → Buf (Elt F) ℓ)

theorem c_V2 (c : Dev nD) : V2 m c main_c = fun i => lit0 (S32.rowMajor i) :=
  (V2_of m c main_c (by decide)).trans (c_at (V0 m c) c)
theorem c_V4 (c : Dev nD) : V4 m c main_c = fun i => lit0 (S32.rowMajor i) :=
  (V4_of m c main_c (by decide)).trans ((V3_of m c main_c (by decide)).trans (c_V2 m c))
theorem v9_V1 (c : Dev nD) : V1 m c main_v9 = one32 (BitVec.ofNat 32 (place c)) := (v9_at (V0 m c) c).trans (place_word c)

theorem v14_V2 (c : Dev nD) (j : Fin 32) : (V2 m c main_v14 : S32.Idx → BitVec 32) (at1 j)
    = remW (Scalar.subi (Scalar.subi (BitVec.ofNat 32 (place c)) 1#32) (BitVec.ofNat 32 j)) := by
  have h6 : V1 m c main_c_6 = one32 32#32 := c6_at (V0 m c) c
  have h13 := v13_at (V0 m c) c
  rw [show StableHlo.after (hostOps0 c) (V0 m c) main_v9 = _ from v9_V1 m c] at h13
  refine (congrFun (v14_at (V1 m c)) (at1 j)).trans ?_
  rw [h6, remV_at]
  exact congrArg remW (congrFun h13 (at1 j))

theorem v25_V4 (c : Dev nD) (j : Fin 32) : (V4 m c main_v25 : S32.Idx → BitVec 32) (at1 j)
    = remW (Scalar.addi (Scalar.addi (BitVec.ofNat 32 (place c)) 1#32) (BitVec.ofNat 32 j)) := by
  have h10 : V3 m c main_c_10 = one32 32#32 := c10_at (V2 m c)
  have h9 : V2 m c main_v9 = one32 (BitVec.ofNat 32 (place c)) := (V2_of m c main_v9 (by decide)).trans (v9_V1 m c)
  have hv : V2 m c main_v10 = iotaInDim S32 32 0 := (V2_of m c main_v10 (by decide)).trans (v10_at (V0 m c) c)
  have h24 := v24_at (V2 m c)
  rw [h9, hv] at h24
  refine (congrFun (v25_at (V3 m c)) (at1 j)).trans ?_
  rw [h10, remV_at]
  exact congrArg remW (congrFun h24 (at1 j))

/-- Device `c`'s table: word `(a, j)` is the chunk's number. -/
theorem table_word (c : Dev nD) (a : Fin 2) (j : ℕ) (q : Fin 32) (hq : q.val = j % 32) :
    (V5 m c main_v35 : S2x32.Idx → BitVec 32) (at2 a q) = BitVec.ofNat 32 (chunk a c j) := by
  have hj : q = Fin.ofNat 32 j := Fin.ext hq
  subst hj
  fin_cases a
  · refine (row0_at (V4 m c) _).trans ?_
    refine (congrFun ((V4_of m c main_v21 (by decide)).trans (v21_at (V2 m c))) _).trans ?_
    rw [c_V2 m c]
    exact lookV_at _ _ _ ((congrArg entW (v14_V2 m c _)).trans (entW_lo _ _))
  · refine (row1_at (V4 m c) _).trans ?_
    rw [c_V4 m c]
    exact lookV_at _ _ _ ((congrArg entW (v25_V4 m c _)).trans (entW_hi _ _))

end Cert.Ring
-- ==== Proof.Protocol.lean ====
/-
  The protocol of the two rings: what each device sends at each step, which semaphore counts what, in which order, and what
  every unit hands over.

  At step `s` (0 to 30) device `c` sends slot `s % 2` of its forward buffer into the same slot of its right neighbour's
  receiving buffer, and slot `s % 2` of its backward buffer into its left neighbour's. A neighbour's slot may be written
  when the neighbour has read what the slot held before. That permission travels WITH THE DATA: the transfer of step `s`
  to the right carries, besides its message, the right to write the sender's own backward slot at step `s + 1`, since the
  sender has read that slot at step `s - 1` and its right neighbour is the one that writes it; and the same to the left. The
  two credit semaphores carry nothing: a credit is given before the slot is read, so it could not carry the slot.

    barrier      one round of two units: from the right neighbour, with both its forward slots; from the left neighbour, with
                 both its backward slots
    rsF, slot b  round j is step 2j+b: one transfer from the left, with the message of that step and the permission above
    rsB, slot b  the same from the right
    ssF, ssB     round j is step 2j+b: the device's own transfer, which gives back the slot it read
    crF, crB     one round of 29 single units, from the right and from the left neighbour, with nothing
-/
module

public import proofs.«01_k».proof.Proof.Table
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Scf
public import Idealize.ShloMosaic.Lib.Tactic
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-! ## Words that name devices -/

/-- The word that names device `d`. -/
abbrev word (d : Dev nD) : BitVec 32 := BitVec.ofNat 32 d

theorem chk1_word (d : Dev nD) : k0_chk1 (word d) := by
  have : ∀ d : Dev nD, @decide (k0_chk1 (word d)) (k0_chk1.dec _) = true := by decide +kernel
  exact @of_decide_eq_true _ (k0_chk1.dec _) (this d)
theorem chk2_word (d : Dev nD) : k0_chk2 (word d) := by
  have : ∀ d : Dev nD, @decide (k0_chk2 (word d)) (k0_chk2.dec _) = true := by decide +kernel
  exact @of_decide_eq_true _ (k0_chk2.dec _) (this d)
theorem chk3_word (d : Dev nD) : k0_chk3 (word d) := by
  have : ∀ d : Dev nD, @decide (k0_chk3 (word d)) (k0_chk3.dec _) = true := by decide +kernel
  exact @of_decide_eq_true _ (k0_chk3.dec _) (this d)
theorem dev1_word (d : Dev nD) : k0_dev1 (word d) = d.val := by revert d; decide +kernel
theorem dev2_word (d : Dev nD) : k0_dev2 (word d) = d.val := by revert d; decide +kernel
theorem dev3_word (d : Dev nD) : k0_dev3 (word d) = d.val := by revert d; decide +kernel
theorem dev4_word (d : Dev nD) : k0_dev4 (word d) = d.val := by revert d; decide +kernel
theorem dev5_word (d : Dev nD) : k0_dev5 (word d) = d.val := by revert d; decide +kernel
theorem dev6_word (d : Dev nD) : k0_dev6 (word d) = d.val := by revert d; decide +kernel
theorem off1_word (d : Dev nD) : (k0_off1 (word d)) 0 = 256 * d.val := by revert d; decide +kernel

/-! ## What is sent -/

/-- Every device's `x` and `w`. -/
structure Ins (F : FTy → Type) [FloatOps F] where
  x : Dev nD → Vec F S8192x256 .bf16
  w : Dev nD → Vec F S256x4096 .bf16

variable (A : Ins F)

/-- Block `d` of device `c`'s `x`, and the halves of its `w`. -/
def xBlk (c d : Dev nD) : Vec F S256x256 .bf16 := fun i => A.x c ((chunkR (word d) (chk3_word d)).emb i)
def wLo (c : Dev nD) : Vec F S256x2048 .bf16 := fun i => A.w c (loR.emb i)
def wHi (c : Dev nD) : Vec F S256x2048 .bf16 := fun i => A.w c (hiR.emb i)

/-- Device `c`'s product for column `j` of its table: the left half forward, the right half backward. -/
def pLo (c : Dev nD) (j : ℕ) : FVec F S256x2048 .f32 := k0_pay4 (xBlk A c (chunk 0 c j)) (wLo A c)
def pHi (c : Dev nD) (j : ℕ) : FVec F S256x2048 .f32 := k0_pay4 (xBlk A c (chunk 1 c j)) (wHi A c)

/-- A matrix as the slot of a two-slot buffer. -/
abbrev up (v : FVec F S256x2048 .bf16) : FVec F S1x256x2048 .bf16 := shapeCast S1x256x2048 v shapeCasts_S256x2048_S1x256x2048
abbrev down (v : FVec F S1x256x2048 .bf16) : FVec F S256x2048 .bf16 := shapeCast S256x2048 v shapeCasts_S1x256x2048_S256x2048

/-- The message of step `s` that device `c` sends to the right, and to the left. -/
def msgF (c : Dev nD) : ℕ → FVec F S256x2048 .bf16
  | 0 => down (k0_pay2 (xBlk A c (chunk 0 c 0)) (wLo A c))
  | s + 1 => down (k0_pay8 (pLo A c (s + 1)) (up (msgF (L c) s)))
termination_by s => s
def msgB (c : Dev nD) : ℕ → FVec F S256x2048 .bf16
  | 0 => down (k0_pay2 (xBlk A c (chunk 1 c 0)) (wHi A c))
  | s + 1 => down (k0_pay8 (pHi A c (s + 1)) (up (msgB (R c) s)))
termination_by s => s

/-- The halves of device `c`'s result. -/
def outLo (c : Dev nD) : FVec F S256x2048 .f32 := k0_pay145 (pLo A c 31) (up (msgF A (L c) 30))
def outHi (c : Dev nD) : FVec F S256x2048 .f32 := k0_pay145 (pHi A c 31) (up (msgB A (R c) 30))

/-! ## Cells -/

abbrev cell (c : Dev nD) (s : SemLoc sig) : GSem nD τ sig := ((c : Thread nD τ), s)

/-- What a semaphore is for. -/
inductive Kd
  | bar | sF (b : ℕ) | rF (b : ℕ) | sB (b : ℕ) | rB (b : ℕ) | cF | cB | other

def kd : SemLoc sig → Kd
  | .reg i => match i.val with | 0 => .cF | 1 => .cB | 2 => .bar | _ => .other
  | .dma i => match i.val with | 4 => .sF 0 | 5 => .sF 1 | 6 => .rF 0 | 7 => .rF 1 | 8 => .sB 0 | 9 => .sB 1 | 10 => .rB 0 | 11 => .rB 1 | _ => .other

@[simp] theorem kd_bar : kd (.reg barS) = .bar := rfl
@[simp] theorem kd_crF : kd (.reg crF) = .cF := rfl
@[simp] theorem kd_crB : kd (.reg crB) = .cB := rfl
@[simp] theorem kd_ssF (b : Fin 2) : kd (.dma (ssF b)) = .sF b := by fin_cases b <;> rfl
@[simp] theorem kd_rsF (b : Fin 2) : kd (.dma (rsF b)) = .rF b := by fin_cases b <;> rfl
@[simp] theorem kd_ssB (b : Fin 2) : kd (.dma (ssB b)) = .sB b := by fin_cases b <;> rfl
@[simp] theorem kd_rsB (b : Fin 2) : kd (.dma (rsB b)) = .rB b := by fin_cases b <;> rfl

/-- The units a transfer of one slot counts. -/
abbrev N : ℕ := (slotM rfM 0).view.dmaCredit
theorem N_pos : 0 < N := View.dmaCredit_pos _ (by decide)
theorem credit_sf (b : Fin 2) : (slotM sfM b).view.dmaCredit = N := by fin_cases b <;> rfl
theorem credit_rf (b : Fin 2) : (slotM rfM b).view.dmaCredit = N := by fin_cases b <;> rfl
theorem credit_sb (b : Fin 2) : (slotM sbM b).view.dmaCredit = N := by fin_cases b <;> rfl
theorem credit_rb (b : Fin 2) : (slotM rbM b).view.dmaCredit = N := by fin_cases b <;> rfl

/-! ## Slots -/

/-- Slot `b` of device `d`'s buffer `M`, at some contents; and at contents that read `v`. -/
def own (M : Memref sig .tc .vmem S2x256x2048 .bf16) (d : Dev nD) (b : Fin 2) : sProp 𝕄 :=
  iprop(∃ f : Buf (Elt F) ((slotM M b).view.loc (d : Thread nD τ)), (slotM M b).view.loc (d : Thread nD τ) ↦[(slotM M b).view.set]{fullShare} f)
def holds (M : Memref sig .tc .vmem S2x256x2048 .bf16) (d : Dev nD) (b : Fin 2) (v : FVec F S256x2048 .bf16) : sProp 𝕄 :=
  iprop(∃ f : Buf (Elt F) ((slotM M b).view.loc (d : Thread nD τ)), ⌜(slotM M b).view.read (Elt F) f = v⌝
    ∗ ((slotM M b).view.loc (d : Thread nD τ) ↦[(slotM M b).view.set]{fullShare} f))

theorem holds_own (M : Memref sig .tc .vmem S2x256x2048 .bf16) (d : Dev nD) (b : Fin 2) (v : FVec F S256x2048 .bf16) :
    holds M d b v ⊢ (own M d b : sProp 𝕄) := by
  unfold holds own
  iintro ⟨%f, -, H⟩
  iexists f; iexact H

/-- Device `d`'s forward slot free for the message of step `t`, and its backward slot. -/
def freeF (d : Dev nD) (t : ℕ) : sProp 𝕄 := iprop(own rfM d (sl t) ∗ reached ER (cell d (.dma (rsF (sl t)))) (t / 2))
def freeB (d : Dev nD) (t : ℕ) : sProp 𝕄 := iprop(own rbM d (sl t) ∗ reached ER (cell d (.dma (rsB (sl t)))) (t / 2))

/-- What device `d` hands to the neighbour that writes its forward slots, and its backward slots, before any transfer. -/
def doorF (d : Dev nD) : sProp 𝕄 := iprop((freeF d 0 ∗ freeF d 1) ∗ reached ER (cell d (.reg crB)) 0)
def doorB (d : Dev nD) : sProp 𝕄 := iprop((freeB d 0 ∗ freeB d 1) ∗ reached ER (cell d (.reg crF)) 0)

/-- What device `d` sends along at step `s`: its own slot, read at step `s - 1`, for the neighbour to write at step `s + 1`. -/
def alongF (d : Dev nD) (s : ℕ) : sProp 𝕄 := if 1 ≤ s ∧ s ≤ 29 then freeF d (s + 1) else iprop(emp)
def alongB (d : Dev nD) (s : ℕ) : sProp 𝕄 := if 1 ≤ s ∧ s ≤ 29 then freeB d (s + 1) else iprop(emp)

/-! ## The schedule -/

def dutK : Kd → ℕ → Finset ℕ
  | .bar, r => if r = 0 then {0, 1} else ∅
  | .sF b, r | .rF b, r | .sB b, r | .rB b, r => if 2 * r + b ≤ 30 then {0} else ∅
  | .cF, r | .cB, r => if r = 0 then Finset.range 29 else ∅
  | .other, _ => ∅

def amtK : Kd → ℕ
  | .bar | .cF | .cB | .other => 1
  | .sF _ | .rF _ | .sB _ | .rB _ => N

def slot (b : ℕ) : Fin 2 := sl b

def payK (c : Dev nD) : Kd → ℕ → ℕ → sProp 𝕄
  | .bar, _, d => if d = 0 then doorF (R c) else doorB (L c)
  | .sF b, _, _ => own sfM c (sl b)
  | .sB b, _, _ => own sbM c (sl b)
  | .rF b, r, _ => iprop(holds rfM c (sl b) (msgF A (L c) (2 * r + b)) ∗ alongB (L c) (2 * r + b))
  | .rB b, r, _ => iprop(holds rbM c (sl b) (msgB A (R c) (2 * r + b)) ∗ alongF (R c) (2 * r + b))
  | .cF, _, _ | .cB, _, _ | .other, _, _ => iprop(emp)

def Rd : Rounds.Schedule (GSem nD τ sig) ℕ 𝕄 where
  duties g r := if g.1.2 = .tc then dutK (kd g.2) r else ∅
  unitless _ := False
  amount g _ _ := amtK (kd g.2)
  payload g r d := payK A g.1.1 (kd g.2) r d
  amount_pos g _ _ _ := by
    show 0 < amtK (kd g.2)
    have := N_pos
    cases kd g.2 <;> first | exact Nat.one_pos | exact N_pos

instance own_storable (M : Memref sig .tc .vmem S2x256x2048 .bf16) (d : Dev nD) (b : Fin 2) : BI.Storable (upEmb : UEmb _ 𝕄) (own M d b : sProp 𝕄) := by
  unfold own; infer_instance
instance holds_storable (M : Memref sig .tc .vmem S2x256x2048 .bf16) (d : Dev nD) (b : Fin 2) (v : FVec F S256x2048 .bf16) :
    BI.Storable (upEmb : UEmb _ 𝕄) (holds M d b v : sProp 𝕄) := by
  unfold holds; infer_instance
instance freeF_storable (d : Dev nD) (t : ℕ) : BI.Storable (upEmb : UEmb _ 𝕄) (freeF d t : sProp 𝕄) := by unfold freeF; infer_instance
instance freeB_storable (d : Dev nD) (t : ℕ) : BI.Storable (upEmb : UEmb _ 𝕄) (freeB d t : sProp 𝕄) := by unfold freeB; infer_instance
instance doorF_storable (d : Dev nD) : BI.Storable (upEmb : UEmb _ 𝕄) (doorF d : sProp 𝕄) := by unfold doorF; infer_instance
instance doorB_storable (d : Dev nD) : BI.Storable (upEmb : UEmb _ 𝕄) (doorB d : sProp 𝕄) := by unfold doorB; infer_instance
instance alongF_storable (d : Dev nD) (t : ℕ) : BI.Storable (upEmb : UEmb _ 𝕄) (alongF d t : sProp 𝕄) := by unfold alongF; split <;> infer_instance
instance alongB_storable (d : Dev nD) (t : ℕ) : BI.Storable (upEmb : UEmb _ 𝕄) (alongB d t : sProp 𝕄) := by unfold alongB; split <;> infer_instance

instance payload_storable (g : GSem nD τ sig) (r : ℕ) (d : ℕ) : BI.Storable (upEmb : UEmb _ 𝕄) ((Rd A).payload g r d) := by
  show BI.Storable upEmb (payK A g.1.1 (kd g.2) r d)
  unfold payK
  cases kd g.2 <;> dsimp only <;> (repeat' split) <;> infer_instance

section Sched

variable (c : Dev nD) (b : Fin 2) (r : ℕ)

theorem duties_of (s : SemLoc sig) : (Rd A).duties (cell c s) r = dutK (kd s) r := by
  show (if (cell c s).1.2 = .tc then dutK (kd s) r else ∅) = _
  exact if_pos rfl
theorem amount_of (s : SemLoc sig) (d : ℕ) : (Rd A).amount (cell c s) r d = amtK (kd s) := rfl
theorem payload_of (s : SemLoc sig) (d : ℕ) : (Rd A).payload (cell c s) r d = payK A c (kd s) r d := rfl
theorem expect_of (s : SemLoc sig) : (Rd A).expect (cell c s) r = (dutK (kd s) r).card * amtK (kd s) := by
  unfold Schedule.expect Schedule.amountOf
  rw [duties_of, Finset.sum_congr rfl (fun d _ => amount_of A c r s d), Finset.sum_const, smul_eq_mul]

end Sched

/-! ## Levels and what is owed -/

def lvls (g : GSem nD τ sig) : Finset ℕ := if g.1.2 = .tc then Finset.range 32 else ∅
def levK : Kd → ℕ → ℕ
  | .bar, _ => 1
  | .rF _, ι | .rB _, ι => 2 * ι + 2
  | .cF, ι | .cB, ι => 2 * ι + 3
  | _, _ => 0
def lev (g : GSem nD τ sig) (ι : ℕ) : ℕ := levK (kd g.2) ι

theorem lvls_of_ne (g : GSem nD τ sig) (h : g.1.2 ≠ .tc) : lvls g = ∅ := if_neg h

abbrev recvF (c : Dev nD) (s : ℕ) : GSem nD τ sig := cell c (.dma (rsF (sl s)))
abbrev recvB (c : Dev nD) (s : ℕ) : GSem nD τ sig := cell c (.dma (rsB (sl s)))
abbrev sendFc (c : Dev nD) (s : ℕ) : GSem nD τ sig := cell c (.dma (ssF (sl s)))
abbrev sendBc (c : Dev nD) (s : ℕ) : GSem nD τ sig := cell c (.dma (ssB (sl s)))
abbrev creditF (c : Dev nD) : GSem nD τ sig := cell c (.reg crF)
abbrev creditB (c : Dev nD) : GSem nD τ sig := cell c (.reg crB)
abbrev barC (c : Dev nD) : GSem nD τ sig := cell c (.reg barS)

/-- The credits device `c` gives at step `s`. -/
def oweC (c : Dev nD) (s : ℕ) : CellTallies nD τ sig ℕ :=
  if s ≤ 28 then tallyAt (creditB (R c)) s 1 + tallyAt (creditF (L c)) s 1 else 0

/-- What device `c` owes before step `s`, with `n` steps to do: `s = 31 - n`. -/
def owe (c : Dev nD) : ℕ → CellTallies nD τ sig ℕ
  | 0 => 0
  | n + 1 => owe c n + oweC c (30 - n) + tallyAt (recvB (L c) (30 - n)) (30 - n) N + tallyAt (recvF (R c) (30 - n)) (30 - n) N

/-- What device `c` owes at launch. -/
def O₀ (c : Dev nD) : CellTallies nD τ sig ℕ := owe c 31 + tallyAt (barC (R c)) 0 1 + tallyAt (barC (L c)) 0 1

/-- Everything `O` owes is on a TensorCore cell, at an index below 32, at level `l` at least. -/
def Above (O : CellTallies nD τ sig ℕ) (l : ℕ) : Prop := ∀ g ι, 0 < O g ι → g.1.2 = .tc ∧ ι < 32 ∧ l ≤ lev g ι

theorem Above.zero (l : ℕ) : Above 0 l := fun _ _ h => absurd h (Nat.lt_irrefl 0)
theorem Above.add {O O' : CellTallies nD τ sig ℕ} {l : ℕ} (h : Above O l) (h' : Above O' l) : Above (O + O') l := fun g ι hg => by
  have : 0 < O g ι + O' g ι := hg
  by_cases h0 : 0 < O g ι
  · exact h g ι h0
  · exact h' g ι (by omega)
theorem Above.tally {c : Dev nD} {s : SemLoc sig} {ι n l : ℕ} (hι : ι < 32) (hl : l ≤ levK (kd s) ι) : Above (tallyAt (cell c s) ι n) l :=
  fun g ι' hg => by
    rw [tallyAt_apply] at hg
    by_cases h : g = cell c s ∧ ι' = ι
    · obtain ⟨rfl, rfl⟩ := h; exact ⟨rfl, hι, hl⟩
    · rw [if_neg h] at hg; exact absurd hg (Nat.lt_irrefl 0)
theorem Above.mono {O : CellTallies nD τ sig ℕ} {l l' : ℕ} (h : Above O l) (hl : l' ≤ l) : Above O l' := fun g ι hg =>
  ⟨(h g ι hg).1, (h g ι hg).2.1, hl.trans (h g ι hg).2.2⟩

theorem above_oweC (c : Dev nD) (s : ℕ) : Above (oweC c s) (2 * s + 3) := by
  unfold oweC
  split
  · exact (Above.tally (by omega) (by simp [levK])).add (Above.tally (by omega) (by simp [levK]))
  · exact .zero _
theorem above_owe (c : Dev nD) : ∀ n, n ≤ 31 → Above (owe c n) (2 * (31 - n) + 2)
  | 0, _ => .zero _
  | n + 1, h => by
    unfold owe
    refine ((((above_owe c n (by omega)).mono (by omega)).add ((above_oweC c (30 - n)).mono (by omega))).add
      (.tally (by omega) ?_)).add (.tally (by omega) ?_) <;> rw [show kd _ = _ from by first | exact kd_rsF _ | exact kd_rsB _] <;>
      show _ ≤ 2 * (30 - n) + 2 <;> omega

theorem mayWait (c : Dev nD) (s : SemLoc sig) (ι : ℕ) (hι : ι < 32) (O : CellTallies nD τ sig ℕ) (hO : Above O (levK (kd s) ι + 1)) :
    (levAts lvls lev : sProp 𝕄) ⊢ MayWait (c : Thread nD τ) s ι O :=
  MayOwe.of_cut (L := lvls) (lev := lev) (levK (kd s) ι)
    (fun p hp => by rw [Finset.mem_singleton.mp hp]; show ι ∈ lvls _; unfold lvls; rw [if_pos rfl]; exact Finset.mem_range.mpr hι)
    (fun g u hg => by have h := hO g u hg; unfold lvls; rw [if_pos h.1]; exact Finset.mem_range.mpr h.2.1)
    (fun p hp => by rw [Finset.mem_singleton.mp hp]; exact le_rfl)
    (fun g u hg => (hO g u hg).2.2)

end Cert.Ring
-- ==== Proof.Local.lean ====
/-
  The pieces of the body that do not leave the device: the loads of the table, of `x` and of `w`, and the stores of the
  messages and of the result.
-/
module

public import proofs.«01_k».proof.Proof.Protocol

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` runs `k` to `Q`. -/
abbrev runs (c : Dev nD) (k : P F) (Q : PUnit → sProp 𝕄) : sProp 𝕄 :=
  wp frame (wpE (defs₀ (F := F)) 𝒱₀ (c : Thread nD τ) none) Set.univ k Q

/-- Device `c`'s buffer `b`, whole, at contents `f`. -/
abbrev pt (c : Dev nD) (b : Ref sig .tc) (f : b.ty.Contents (Elt F)) : sProp 𝕄 := (Memref.whole b).view.loc (c : Thread nD τ) ↦{fullShare} f

variable (A : Ins F)

/-! ## The two-slot buffers -/

/-- What a slot reads, as the matrix a transfer moves, from what a load of it gives. -/
theorem read_slot (M : Memref sig .tc .vmem S2x256x2048 .bf16) (b : Fin 2) (f : M.view.ref.ty.Contents (Elt F)) :
    (slotM M b).view.read (Elt F) f = down (M.view.readAt (Elt F) (slotR b).toLoadRect f) :=
  Memref.read_squeeze_slice M (slotR b) (fun _ => rfl) _ shapeCasts_S1x256x2048_S256x2048 f

theorem up_down (v : FVec F S1x256x2048 .bf16) : up (down v) = v := by
  unfold up down; rw [shapeCast_shapeCast]

theorem load_slot (M : Memref sig .tc .vmem S2x256x2048 .bf16) (b : Fin 2) (f : M.view.ref.ty.Contents (Elt F)) (v : FVec F S256x2048 .bf16)
    (h : (slotM M b).view.read (Elt F) f = v) : M.view.readAt (Elt F) (slotR b).toLoadRect f = up v := by
  rw [← h, read_slot, up_down]

theorem set_slot (M : Memref sig .tc .vmem S2x256x2048 .bf16) (b : Fin 2) : (slotM M b).view.set = (M.access (slotR b)).set :=
  View.set_reshape ..

theorem load_sub (M : Memref sig .tc .vmem S2x256x2048 .bf16) (b : Fin 2) : M.view.setOn (slotR b).toLoadRect.set ⊆ (slotM M b).view.set := by
  rw [set_slot, View.set_slice]; exact Finset.Subset.refl _

theorem store_sub (M : Memref sig .tc .vmem S2x256x2048 .bf16) (b : Fin 2) :
    (M.access (slotR b)).setOn Finset.univ ⊆ (slotM M b).view.set := by
  rw [set_slot]; exact Finset.Subset.refl _

/-- A load of a slot gives what it holds. -/
theorem load_wp (M : Memref sig .tc .vmem S2x256x2048 .bf16) (c : Dev nD) (b : Fin 2) (v : FVec F S256x2048 .bf16)
    (hl : M.view.LoadsAt (slotR b).toLoadRect) (k : Vec F S1x256x2048 .bf16 → P F) (Q : PUnit → sProp 𝕄) :
    iprop(holds M c b v ∗ (own M c b -∗ runs c (k (up v)) Q)) ⊢ runs c (.op (.load M (slotR b).toLoadRect hl) k) Q := by
  unfold holds own runs
  iintro ⟨⟨%f, %hf, Hf⟩, Hk⟩
  iapply (wp_load 𝒱₀ (c : Thread nD τ) none Set.univ (m := M) (S := (slotM M b).view.set) (f := f) (load_sub M b)) $$ Hf
  iintro Hf
  rw [load_slot M b f v hf]
  iapply Hk
  iexists f; iexact Hf

theorem take_wp (c : Dev nD) (b : Fin 2) (v v' : FVec F S256x2048 .bf16)
    (k : Vec F S1x256x2048 .bf16 → Vec F S1x256x2048 .bf16 → P F) (Q : PUnit → sProp 𝕄) :
    iprop(holds rfM c b v ∗ holds rbM c b v' ∗ (own rfM c b ∗ own rbM c b -∗ runs c (k (up v) (up v')) Q)) ⊢ runs c (take b k) Q := by
  unfold take
  iintro ⟨Hf, Hf', Hk⟩
  iapply (load_wp rfM c b v)
  isplitl [Hf]; · iexact Hf
  iintro Hf
  iapply (load_wp rbM c b v')
  isplitl [Hf']; · iexact Hf'
  iintro Hf'
  iapply Hk
  isplitl [Hf] <;> iassumption

/-- A message stored into a slot. -/
theorem put_wp (M : Memref sig .tc .vmem S2x256x2048 .bf16) (hM : M.IsWhole) (c : Dev nD) (b : Fin 2) (w : FVec F S1x256x2048 .bf16)
    (k : P F) (Q : PUnit → sProp 𝕄) :
    iprop(own M c b ∗ (holds M c b (down w) -∗ runs c k Q)) ⊢ runs c (put M hM b w k) Q := by
  unfold holds own runs put
  iintro ⟨⟨%f, Hf⟩, Hk⟩
  iapply (wp_load 𝒱₀ (c : Thread nD τ) none Set.univ (m := M) (S := (slotM M b).view.set) (f := f) (load_sub M b)) $$ Hf
  iintro Hf
  iapply (wp_store 𝒱₀ (c : Thread nD τ) none Set.univ (m := M) (r := slotR b) (S := (slotM M b).view.set) (f := f) (store_sub M b)) $$ Hf
  iintro Hf
  iapply Hk
  iexists ((M.access (slotR b)).write (Elt F) f w Finset.univ)
  isplitr
  · ipureintro
    rw [read_slot]
    exact congrArg down (View.read_write_univ (v := M.access (slotR b)) f w)
  iexact Hf

/-! ## The table, `x` and `w` -/

/-- Word `(a, j)` of a table, as the body loads it. -/
def tabW (T : (cc0_stg2_0 : Ref sig .tc).ty.Contents (Elt F)) (a : Fin 2) (j : ℕ) : BitVec 32 :=
  tM.view.readAt (Elt F) (colR a j).toLoadRect T (Shape.Idx.first (numel1_S1x1.symm ▸ Nat.one_pos))

/-- The table names the blocks of the schedule. -/
def TabOk (c : Dev nD) (T : (cc0_stg2_0 : Ref sig .tc).ty.Contents (Elt F)) : Prop := ∀ a j, tabW T a j = word (chunk a c j)

/-- What device `c` reads and never writes while the rings run. -/
def reads (c : Dev nD) (T : (cc0_stg2_0 : Ref sig .tc).ty.Contents (Elt F)) : sProp 𝕄 :=
  iprop(pt c cc0_stg2_0 T ∗ pt c cc0_stg0_0 (A.x c) ∗ pt c cc0_scratch0 (A.w c))

/-- A fetch, the word of the table given. -/
def fetchV (v : BitVec 32) (hR : Rect S256x4096) (hl : wbM.view.LoadsAt hR.toLoadRect)
    (k : Vec F S256x256 .bf16 → (hR.shape.Idx → Elt F .bf16) → P F) : P F :=
  .op (.assume (k0_chk3 v) (k0_chk3.dec v)) fun h =>
  .op (.load xM (chunkR v h.down).toLoadRect (View.loadsAt_vmem h_S256x256)) fun x =>
  .op (.load wbM hR.toLoadRect hl) fun w => k x w

theorem fetch_eq (a : Fin 2) (j : ℕ) (hR : Rect S256x4096) (hh : hR.shape = S256x2048) (hl : wbM.view.LoadsAt hR.toLoadRect)
    (k : Vec F S256x256 .bf16 → (hR.shape.Idx → Elt F .bf16) → P F) :
    fetch a j hR hh hl k = .op (.load tM (colR a j) (View.loadsAt_rect (View.loads_smem_one rfl numel1_S1x1)))
      fun f => fetchV (f (Shape.Idx.first (numel1_S1x1.symm ▸ Nat.one_pos))) hR hl k := rfl

theorem fetchV_wp (c : Dev nD) (d : Dev nD) (hR : Rect S256x4096) (hl : wbM.view.LoadsAt hR.toLoadRect)
    (k : Vec F S256x256 .bf16 → (hR.shape.Idx → Elt F .bf16) → P F) (Q : PUnit → sProp 𝕄) :
    iprop(pt c cc0_stg0_0 (A.x c) ∗ pt c cc0_scratch0 (A.w c) ∗ (pt c cc0_stg0_0 (A.x c) ∗ pt c cc0_scratch0 (A.w c)
        -∗ runs c (k (xBlk A c d) (fun i => A.w c (hR.emb i))) Q)) ⊢ runs c (fetchV (word d) hR hl k) Q := by
  unfold fetchV runs
  iintro ⟨HX, HW, Hk⟩
  iapply (wp_assume 𝒱₀ (c : Thread nD τ) none Set.univ (chk3_word d))
  iapply (wp_load 𝒱₀ (c : Thread nD τ) none Set.univ (m := xM) (S := Finset.univ) (f := A.x c) (Finset.subset_univ _)) $$ HX
  iintro HX
  iapply (wp_load 𝒱₀ (c : Thread nD τ) none Set.univ (m := wbM) (S := Finset.univ) (f := A.w c) (Finset.subset_univ _)) $$ HW
  iintro HW
  iapply Hk
  isplitl [HX] <;> iassumption

theorem fetch_wp (c : Dev nD) (T : (cc0_stg2_0 : Ref sig .tc).ty.Contents (Elt F)) (hT : TabOk c T) (a : Fin 2) (j : ℕ)
    (hR : Rect S256x4096) (hh : hR.shape = S256x2048) (hl : wbM.view.LoadsAt hR.toLoadRect)
    (k : Vec F S256x256 .bf16 → (hR.shape.Idx → Elt F .bf16) → P F) (Q : PUnit → sProp 𝕄) :
    iprop(reads A c T ∗ (reads A c T -∗ runs c (k (xBlk A c (chunk a c j)) (fun i => A.w c (hR.emb i))) Q)) ⊢ runs c (fetch a j hR hh hl k) Q := by
  rw [fetch_eq]
  unfold reads
  iintro ⟨⟨HT, HX, HW⟩, Hk⟩
  iapply (wp_load 𝒱₀ (c : Thread nD τ) none Set.univ (m := tM) (S := Finset.univ) (f := T) (Finset.subset_univ _)) $$ HT
  iintro HT
  have hw : tM.view.readAt (Elt F) (colR a j).toLoadRect T (Shape.Idx.first (numel1_S1x1.symm ▸ Nat.one_pos)) = word (chunk a c j) := hT a j
  rw [hw]
  iapply (fetchV_wp A c (chunk a c j) hR hl k Q)
  isplitl [HX]; · iexact HX
  isplitl [HW]; · iexact HW
  iintro ⟨HX, HW⟩
  iapply Hk
  isplitl [HT]; · iexact HT
  isplitl [HX] <;> iassumption

/-! ## The result -/

theorem putO_wp (c : Dev nD) (hR : Rect S256x4096) (hn : hR.shape = S256x2048) (w : hR.shape.Idx → Elt F .f32)
    (hl : oM.view.LoadsAt hR.toLoadRect) (hs : (oM.access hR).Stores Finset.univ) (f : (cc0_stg3_0 : Ref sig .tc).ty.Contents (Elt F))
    (k : P F) (Q : PUnit → sProp 𝕄) :
    iprop(pt c cc0_stg3_0 f ∗ (pt c cc0_stg3_0 ((oM.access hR).write (Elt F) f w Finset.univ) -∗ runs c k Q)) ⊢ runs c (putO hR hn w hl hs k) Q := by
  unfold putO runs
  iintro ⟨HO, Hk⟩
  iapply (wp_load 𝒱₀ (c : Thread nD τ) none Set.univ (m := oM) (S := Finset.univ) (f := f) (Finset.subset_univ _)) $$ HO
  iintro HO
  iapply (wp_store 𝒱₀ (c : Thread nD τ) none Set.univ (m := oM) (r := hR) (S := Finset.univ) (f := f) (Finset.subset_univ _)) $$ HO
  iintro HO
  iapply Hk
  iexact HO

/-- The result's buffer: the halves stored over `f`. -/
def stored (lo hi : FVec F S256x2048 .f32) (f : (cc0_stg3_0 : Ref sig .tc).ty.Contents (Elt F)) : (cc0_stg3_0 : Ref sig .tc).ty.Contents (Elt F) :=
  (oM.access hiR).write (Elt F) ((oM.access loR).write (Elt F) f lo Finset.univ) hi Finset.univ

theorem last_wp (c : Dev nD) (b : Fin 2) (p p' : FVec F S256x2048 .f32) (v v' : FVec F S256x2048 .bf16)
    (f : (cc0_stg3_0 : Ref sig .tc).ty.Contents (Elt F)) (Q : PUnit → sProp 𝕄) :
    iprop(holds rfM c b v ∗ holds rbM c b v' ∗ pt c cc0_stg3_0 f
      ∗ (own rfM c b ∗ own rbM c b ∗ pt c cc0_stg3_0 (stored (k0_pay145 p (up v)) (k0_pay145 p' (up v')) f) -∗ |={Set.univ}=> Q ⟨⟩))
      ⊢ runs c (last b p p') Q := by
  unfold last
  iintro ⟨Hf, Hb, HO, Hk⟩
  iapply (take_wp c b v v')
  isplitl [Hf]; · iexact Hf
  isplitl [Hb]; · iexact Hb
  iintro ⟨Hf, Hb⟩
  iapply (putO_wp c loR rfl _ _ _ f)
  isplitl [HO]; · iexact HO
  iintro HO
  iapply (putO_wp c hiR rfl _ _ _ _)
  isplitl [HO]; · iexact HO
  iintro HO
  unfold runs
  rw [wp_ret]
  iapply Hk
  isplitl [Hf]; · iexact Hf
  isplitl [Hb]; · iexact Hb
  iexact HO

theorem accum_wp (c : Dev nD) (b b' : Fin 2) (p p' : FVec F S256x2048 .f32) (v v' : FVec F S256x2048 .bf16) (k : P F) (Q : PUnit → sProp 𝕄) :
    iprop(holds rfM c b v ∗ holds rbM c b v' ∗ own sfM c b' ∗ own sbM c b'
      ∗ (own rfM c b ∗ own rbM c b ∗ holds sfM c b' (down (k0_pay8 p (up v))) ∗ holds sbM c b' (down (k0_pay8 p' (up v'))) -∗ runs c k Q))
      ⊢ runs c (accum b b' p p' k) Q := by
  unfold accum
  iintro ⟨Hf, Hb, HF, HB, Hk⟩
  iapply (take_wp c b v v')
  isplitl [Hf]; · iexact Hf
  isplitl [Hb]; · iexact Hb
  iintro ⟨Hf, Hb⟩
  iapply (put_wp sfM (Memref.isWhole_whole _) c b')
  isplitl [HF]; · iexact HF
  iintro HF
  iapply (put_wp sbM (Memref.isWhole_whole _) c b')
  isplitl [HB]; · iexact HB
  iintro HB
  iapply Hk
  isplitl [Hf]; · iexact Hf
  isplitl [Hb]; · iexact Hb
  isplitl [HF] <;> iassumption

/-! ## Before the steps -/

theorem write_w (f w : (cc0_scratch0 : Ref sig .tc).ty.Contents (Elt F)) :
    (wbM.access wR).write (Elt F) f (k0_pay1 (wM.view.readAt (Elt F) wR.toLoadRect w)) Finset.univ = w := by
  have h0 : (![0, 0] : Fin 2 → Nat) = fun _ => 0 := by funext a; fin_cases a <;> rfl
  refine (Memref.write_access_unit_zero_univ (Elt F) cc0_scratch0 h0 inb_S256x4096_S256x4096_0_0 f _).trans ?_
  unfold k0_pay1
  simp only [shapeCast_self]
  exact Memref.readAt_unit_zero (Elt F) cc0_stg1_0 h0 inb_S256x4096_S256x4096_0_0 w

theorem fill_wp (c : Dev nD) (T : (cc0_stg2_0 : Ref sig .tc).ty.Contents (Elt F)) (hT : TabOk c T) (k : P F) (Q : PUnit → sProp 𝕄) :
    iprop(pt c cc0_stg2_0 T ∗ pt c cc0_stg0_0 (A.x c) ∗ pt c cc0_stg1_0 (A.w c) ∗ (∃ f, pt c cc0_scratch0 f)
        ∗ own sfM c 0 ∗ own sbM c 0
        ∗ (reads A c T ∗ pt c cc0_stg1_0 (A.w c) ∗ holds sfM c 0 (msgF A c 0) ∗ holds sbM c 0 (msgB A c 0) -∗ runs c k Q))
      ⊢ runs c (fill k) Q := by
  unfold fill
  iintro ⟨HT, HX, HW, ⟨%f, Hwb⟩, HF, HB, Hk⟩
  iapply (wp_load 𝒱₀ (c : Thread nD τ) none Set.univ (m := wM) (S := Finset.univ) (f := A.w c) (Finset.subset_univ _)) $$ HW
  iintro HW
  iapply (wp_load 𝒱₀ (c : Thread nD τ) none Set.univ (m := wbM) (S := Finset.univ) (f := f) (Finset.subset_univ _)) $$ Hwb
  iintro Hwb
  iapply (wp_store 𝒱₀ (c : Thread nD τ) none Set.univ (m := wbM) (r := wR) (S := Finset.univ) (f := f) (Finset.subset_univ _)) $$ Hwb
  iintro Hwb
  rw [show (wbM.access wR).write (Elt F) f (k0_pay1 (wM.view.readAt (Elt F) wR.toLoadRect (A.w c))) Finset.univ = A.w c from write_w f (A.w c)]
  iapply (fetch_wp A c T hT 0 0)
  isplitl [HT HX Hwb]
  · unfold reads
    isplitl [HT]; · iexact HT
    isplitl [HX] <;> iassumption
  iintro Hr
  iapply (put_wp sfM (Memref.isWhole_whole _) c 0)
  isplitl [HF]; · iexact HF
  iintro HF
  iapply (fetch_wp A c T hT 1 0)
  isplitl [Hr]; · iexact Hr
  iintro Hr
  iapply (put_wp sbM (Memref.isWhole_whole _) c 0)
  isplitl [HB]; · iexact HB
  iintro HB
  iapply Hk
  isplitl [Hr]; · iexact Hr
  isplitl [HW]; · iexact HW
  rw [msgF, msgB]
  isplitl [HF]; · iexact HF
  iexact HB

end Cert.Ring
-- ==== Proof.Talk.lean ====
/-
  The pieces of the body that talk: the two transfers of a step, the four waits, the credits, and the handshake.
-/
module

public import proofs.«01_k».proof.Proof.Local

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (A : Ins F)

/-! ## The cells' invariants -/

/-- The semaphores of the protocol: the ten scoped ones and the barrier. -/
def semOf : Fin 11 → SemLoc sig
  | 0 => .dma (ssF 0) | 1 => .dma (ssF 1) | 2 => .dma (rsF 0) | 3 => .dma (rsF 1)
  | 4 => .dma (ssB 0) | 5 => .dma (ssB 1) | 6 => .dma (rsB 0) | 7 => .dma (rsB 1)
  | 8 => .reg crF | 9 => .reg crB | 10 => .reg barS

/-- Every cell of the protocol, on every device, has its invariant. -/
def recs : sProp 𝕄 :=
  bigSep (Finset.univ : Finset (Dev nD × Fin 11)) fun p => iprop(∃ κ : ℕ, cellInv ER (Rd A) κ (cell p.1 (semOf p.2)))

instance recs_persistent : BI.Persistent (recs A : sProp 𝕄) := by unfold recs; infer_instance

theorem rec_at (d : Dev nD) (k : Fin 11) : recs A ⊢ (iprop(∃ κ : ℕ, cellInv ER (Rd A) κ (cell d (semOf k))) : sProp 𝕄) :=
  bigSep_elim (Φ := fun p : Dev nD × Fin 11 => iprop(∃ κ : ℕ, cellInv ER (Rd A) κ (cell p.1 (semOf p.2)))) (Finset.mem_univ (d, k))

theorem rec_ssF (d : Dev nD) (b : Fin 2) : recs A ⊢ (iprop(∃ κ : ℕ, cellInv ER (Rd A) κ (cell d (.dma (ssF b)))) : sProp 𝕄) := by
  fin_cases b
  · exact rec_at A d 0
  · exact rec_at A d 1
theorem rec_rsF (d : Dev nD) (b : Fin 2) : recs A ⊢ (iprop(∃ κ : ℕ, cellInv ER (Rd A) κ (cell d (.dma (rsF b)))) : sProp 𝕄) := by
  fin_cases b
  · exact rec_at A d 2
  · exact rec_at A d 3
theorem rec_ssB (d : Dev nD) (b : Fin 2) : recs A ⊢ (iprop(∃ κ : ℕ, cellInv ER (Rd A) κ (cell d (.dma (ssB b)))) : sProp 𝕄) := by
  fin_cases b
  · exact rec_at A d 4
  · exact rec_at A d 5
theorem rec_rsB (d : Dev nD) (b : Fin 2) : recs A ⊢ (iprop(∃ κ : ℕ, cellInv ER (Rd A) κ (cell d (.dma (rsB b)))) : sProp 𝕄) := by
  fin_cases b
  · exact rec_at A d 6
  · exact rec_at A d 7
theorem rec_crF (d : Dev nD) : recs A ⊢ (iprop(∃ κ : ℕ, cellInv ER (Rd A) κ (creditF d)) : sProp 𝕄) := rec_at A d 8
theorem rec_crB (d : Dev nD) : recs A ⊢ (iprop(∃ κ : ℕ, cellInv ER (Rd A) κ (creditB d)) : sProp 𝕄) := rec_at A d 9
theorem rec_bar (d : Dev nD) : recs A ⊢ (iprop(∃ κ : ℕ, cellInv ER (Rd A) κ (barC d)) : sProp 𝕄) := rec_at A d 10

/-! ## Where an operation goes -/

theorem sendF_eq (d : Dev nD) (h : k0_chk2 (word d)) (b : Fin 2) (k : P F) :
    sendF (word d) h b k = .op (.enqueueDma (slotM sfM b) (.remote (Dev.tc d) (slotM rfM b) (.dma (ssF b))) (.dma (rsF b))
      (((Memref.isWhole_whole cc0_scratch1).wordExact_slice rfl _ (words_slot b)).reshape _ _)
      (((Memref.isWhole_whole cc0_scratch2).wordExact_slice rfl _ (words_slot b)).reshape _ _) ⟨⟨rfl, Or.inl rfl⟩, trivial⟩) fun _ => k := by
  have key : ∀ (e : Dev nD), e = d → (Prog.op (.enqueueDma (slotM sfM b) (.remote (Dev.tc e) (slotM rfM b) (.dma (ssF b))) (.dma (rsF b))
      (((Memref.isWhole_whole cc0_scratch1).wordExact_slice rfl _ (words_slot b)).reshape _ _)
      (((Memref.isWhole_whole cc0_scratch2).wordExact_slice rfl _ (words_slot b)).reshape _ _) ⟨⟨rfl, Or.inl rfl⟩, trivial⟩) fun _ => k : P F)
      = .op (.enqueueDma (slotM sfM b) (.remote (Dev.tc d) (slotM rfM b) (.dma (ssF b))) (.dma (rsF b))
      (((Memref.isWhole_whole cc0_scratch1).wordExact_slice rfl _ (words_slot b)).reshape _ _)
      (((Memref.isWhole_whole cc0_scratch2).wordExact_slice rfl _ (words_slot b)).reshape _ _) ⟨⟨rfl, Or.inl rfl⟩, trivial⟩) fun _ => k := by
    rintro _ rfl; rfl
  exact key ⟨k0_dev3 (word d), k0_dev3_lt (word d) h⟩ (Fin.ext (dev3_word d))

theorem sendB_eq (d : Dev nD) (h : k0_chk1 (word d)) (b : Fin 2) (k : P F) :
    sendB (word d) h b k = .op (.enqueueDma (slotM sbM b) (.remote (Dev.tc d) (slotM rbM b) (.dma (ssB b))) (.dma (rsB b))
      (((Memref.isWhole_whole cc0_scratch3).wordExact_slice rfl _ (words_slot b)).reshape _ _)
      (((Memref.isWhole_whole cc0_scratch4).wordExact_slice rfl _ (words_slot b)).reshape _ _) ⟨⟨rfl, Or.inl rfl⟩, trivial⟩) fun _ => k := by
  have key : ∀ (e : Dev nD), e = d → (Prog.op (.enqueueDma (slotM sbM b) (.remote (Dev.tc e) (slotM rbM b) (.dma (ssB b))) (.dma (rsB b))
      (((Memref.isWhole_whole cc0_scratch3).wordExact_slice rfl _ (words_slot b)).reshape _ _)
      (((Memref.isWhole_whole cc0_scratch4).wordExact_slice rfl _ (words_slot b)).reshape _ _) ⟨⟨rfl, Or.inl rfl⟩, trivial⟩) fun _ => k : P F)
      = .op (.enqueueDma (slotM sbM b) (.remote (Dev.tc d) (slotM rbM b) (.dma (ssB b))) (.dma (rsB b))
      (((Memref.isWhole_whole cc0_scratch3).wordExact_slice rfl _ (words_slot b)).reshape _ _)
      (((Memref.isWhole_whole cc0_scratch4).wordExact_slice rfl _ (words_slot b)).reshape _ _) ⟨⟨rfl, Or.inl rfl⟩, trivial⟩) fun _ => k := by
    rintro _ rfl; rfl
  exact key ⟨k0_dev4 (word d), k0_dev4_lt (word d) h⟩ (Fin.ext (dev4_word d))

/-! ## A step's rounds -/

section Rounds

variable (c : Dev nD) (s : ℕ)

theorem two_mul_half : 2 * (s / 2) + s % 2 = s := by omega
theorem sl_sl (c : ℕ) : sl ((sl c : Fin 2) : ℕ) = sl c := by unfold sl; simp
theorem sl_add_two : sl (s + 2) = sl s := by unfold sl; simp

theorem dut_step (hs : s ≤ 30) : (0 : ℕ) ∈ (if 2 * (s / 2) + ((sl s : Fin 2) : ℕ) ≤ 30 then ({0} : Finset ℕ) else ∅) := by
  rw [if_pos (by show 2 * (s / 2) + s % 2 ≤ 30; omega)]; exact Finset.mem_singleton_self _
theorem duts_step (hs : s ≤ 30) : (if 2 * (s / 2) + ((sl s : Fin 2) : ℕ) ≤ 30 then ({0} : Finset ℕ) else ∅) = {0} := by
  rw [if_pos (by show 2 * (s / 2) + s % 2 ≤ 30; omega)]

theorem duties_ssF (hs : s ≤ 30) : (Rd A).duties (sendFc c s) (s / 2) = {0} := by rw [duties_of, kd_ssF]; exact duts_step s hs
theorem duties_rsF (hs : s ≤ 30) : (Rd A).duties (recvF c s) (s / 2) = {0} := by rw [duties_of, kd_rsF]; exact duts_step s hs
theorem duties_ssB (hs : s ≤ 30) : (Rd A).duties (sendBc c s) (s / 2) = {0} := by rw [duties_of, kd_ssB]; exact duts_step s hs
theorem duties_rsB (hs : s ≤ 30) : (Rd A).duties (recvB c s) (s / 2) = {0} := by rw [duties_of, kd_rsB]; exact duts_step s hs

theorem amount_ssF (r : ℕ) : (Rd A).amount (sendFc c s) r 0 = N := by rw [amount_of, kd_ssF]; rfl
theorem amount_rsF (r : ℕ) : (Rd A).amount (recvF c s) r 0 = N := by rw [amount_of, kd_rsF]; rfl
theorem amount_ssB (r : ℕ) : (Rd A).amount (sendBc c s) r 0 = N := by rw [amount_of, kd_ssB]; rfl
theorem amount_rsB (r : ℕ) : (Rd A).amount (recvB c s) r 0 = N := by rw [amount_of, kd_rsB]; rfl

theorem expect_ssF (hs : s ≤ 30) : (Rd A).expect (sendFc c s) (s / 2) = N := by
  unfold Schedule.expect Schedule.amountOf; rw [duties_ssF A c s hs, Finset.sum_singleton, amount_ssF]
theorem expect_rsF (hs : s ≤ 30) : (Rd A).expect (recvF c s) (s / 2) = N := by
  unfold Schedule.expect Schedule.amountOf; rw [duties_rsF A c s hs, Finset.sum_singleton, amount_rsF]
theorem expect_ssB (hs : s ≤ 30) : (Rd A).expect (sendBc c s) (s / 2) = N := by
  unfold Schedule.expect Schedule.amountOf; rw [duties_ssB A c s hs, Finset.sum_singleton, amount_ssB]
theorem expect_rsB (hs : s ≤ 30) : (Rd A).expect (recvB c s) (s / 2) = N := by
  unfold Schedule.expect Schedule.amountOf; rw [duties_rsB A c s hs, Finset.sum_singleton, amount_rsB]

theorem pay_ssF (r : ℕ) : (Rd A).payload (sendFc c s) r 0 = own sfM c (sl s) := by
  rw [payload_of, kd_ssF]; show own sfM c (sl ((sl s : Fin 2) : ℕ)) = _; rw [sl_sl]
theorem pay_ssB (r : ℕ) : (Rd A).payload (sendBc c s) r 0 = own sbM c (sl s) := by
  rw [payload_of, kd_ssB]; show own sbM c (sl ((sl s : Fin 2) : ℕ)) = _; rw [sl_sl]
theorem pay_rsF : (Rd A).payload (recvF c s) (s / 2) 0 = iprop(holds rfM c (sl s) (msgF A (L c) s) ∗ alongB (L c) s) := by
  rw [payload_of, kd_rsF]
  show iprop(holds rfM c (sl ((sl s : Fin 2) : ℕ)) (msgF A (L c) (2 * (s / 2) + s % 2)) ∗ alongB (L c) (2 * (s / 2) + s % 2)) = _
  rw [sl_sl, two_mul_half]
theorem pay_rsB : (Rd A).payload (recvB c s) (s / 2) 0 = iprop(holds rbM c (sl s) (msgB A (R c) s) ∗ alongF (R c) s) := by
  rw [payload_of, kd_rsB]
  show iprop(holds rbM c (sl ((sl s : Fin 2) : ℕ)) (msgB A (R c) (2 * (s / 2) + s % 2)) ∗ alongF (R c) (2 * (s / 2) + s % 2)) = _
  rw [sl_sl, two_mul_half]

theorem rest_ssF (hs : s ≤ 30) : bigSep ((Rd A).duties (sendFc c s) (s / 2) \ ∅) (fun d => (Rd A).payload (sendFc c s) (s / 2) d) = own sfM c (sl s) := by
  rw [Finset.sdiff_empty, duties_ssF A c s hs, bigSep_singleton, pay_ssF]
theorem rest_ssB (hs : s ≤ 30) : bigSep ((Rd A).duties (sendBc c s) (s / 2) \ ∅) (fun d => (Rd A).payload (sendBc c s) (s / 2) d) = own sbM c (sl s) := by
  rw [Finset.sdiff_empty, duties_ssB A c s hs, bigSep_singleton, pay_ssB]
theorem rest_rsF (hs : s ≤ 30) : bigSep ((Rd A).duties (recvF c s) (s / 2) \ ∅) (fun d => (Rd A).payload (recvF c s) (s / 2) d)
    = iprop(holds rfM c (sl s) (msgF A (L c) s) ∗ alongB (L c) s) := by
  rw [Finset.sdiff_empty, duties_rsF A c s hs, bigSep_singleton, pay_rsF]
theorem rest_rsB (hs : s ≤ 30) : bigSep ((Rd A).duties (recvB c s) (s / 2) \ ∅) (fun d => (Rd A).payload (recvB c s) (s / 2) d)
    = iprop(holds rbM c (sl s) (msgB A (R c) s) ∗ alongF (R c) s) := by
  rw [Finset.sdiff_empty, duties_rsB A c s hs, bigSep_singleton, pay_rsB]

end Rounds

/-- What a transfer leaves in the slot it writes. -/
theorem read_landed (M M' : Memref sig .tc .vmem S2x256x2048 .bf16) (b : Fin 2)
    (fd : (slotM M' b).view.ref.ty.Contents (Elt F)) (v : FVec F S256x2048 .bf16) :
    (slotM M' b).view.read (Elt F) ((slotM M' b).view.write (Elt F) fd v Finset.univ) = v :=
  View.read_write_univ (v := (slotM M' b).view) fd v

/-! ## The two transfers -/

theorem sendF_wp (c : Dev nD) (s : ℕ) (hs : s ≤ 30) (h : k0_chk2 (word (R c))) (O : CellTallies nD τ sig ℕ) (W : Waits sig ℕ)
    (k : P F) (Q : PUnit → sProp 𝕄) :
    iprop(recs A ∗ holds sfM c (sl s) (msgF A c s) ∗ freeF (R c) s ∗ alongB c s ∗ owes (c : Thread nD τ) (O + tallyAt (recvF (R c) s) s N) W
        ∗ dutyTok ER (sendFc c s) (s / 2) 0 ∗ reached ER (sendFc c s) (s / 2) ∗ dutyTok ER (recvF (R c) s) (s / 2) 0
        ∗ (cred (tallyAt (sendFc c s) 0 N) ∗ owes (c : Thread nD τ) O W -∗ runs c k Q))
      ⊢ runs c (sendF (word (R c)) h (sl s) k) Q := by
  rw [sendF_eq]
  unfold holds freeF own runs
  iintro ⟨#HI, ⟨%fs, %hfs, Hs⟩, ⟨⟨%fd, Hd⟩, #Hrd⟩, Hal, HO, Ht, #Hrs, Ht', Hk⟩
  ihave H1 := (rec_ssF A c (sl s)) $$ HI
  icases H1 with ⟨%κ₁, #HI1⟩
  ihave H2 := (rec_rsF A (R c) (sl s)) $$ HI
  icases H2 with ⟨%κ₂, #HI2⟩
  iapply (Rounds.wp_send_pointsTo_with 𝒱₀ ER (Rd A) (c : Thread nD τ) none (c' := (R c : Thread nD τ)) (src := slotM sfM (sl s)) (dst := slotM rfM (sl s))
      (sS := .dma (ssF (sl s))) (sem := .dma (rsF (sl s))) (q := fullShare) (fs := fs) (fd := fd) (F := alongB c s) (κ₁ := κ₁) (κ₂ := κ₂)
      (r₁ := s / 2) (r₂ := s / 2) (d₁ := 0) (d₂ := 0)
      (by rw [duties_ssF A c s hs]; exact Finset.mem_singleton_self _) (by rw [duties_rsF A (R c) s hs]; exact Finset.mem_singleton_self _)
      s 0 N (credit_rf (sl s)) (amount_ssF A c s _) (amount_rsF A (R c) s _) O rfl (W := W)
      (by rw [pay_ssF]; unfold own; exact exists_intro (Φ := fun f => ((slotM sfM (sl s)).view.loc (c : Thread nD τ) ↦[(slotM sfM (sl s)).view.set]{fullShare} f : sProp 𝕄)) fs)
      (by
        rw [pay_rsF, L_R]
        iintro ⟨H, Hal⟩
        isplitl [H]
        · unfold holds
          iexists ((slotM rfM (sl s)).view.write (Elt F) fd ((slotM sfM (sl s)).view.read (Elt F) fs) Finset.univ)
          isplitr
          · ipureintro; rw [read_landed sfM rfM, hfs]
          · iexact H
        · iexact Hal)) $$ [Hs Hd Hal HO Ht Ht']
  · isplitr; · iexact HI1
    isplitr; · iexact HI2
    isplitl [Hs]; · iexact Hs
    isplitl [Hd Hal]
    · isplitl [Hd]; · iexact Hd
      iexact Hal
    isplitl [HO]; · iexact HO
    isplitl [Ht]; · iexact Ht
    isplitr; · iexact Hrs
    isplitl [Ht']; · iexact Ht'
    iexact Hrd
  iexact Hk

theorem sendB_wp (c : Dev nD) (s : ℕ) (hs : s ≤ 30) (h : k0_chk1 (word (L c))) (O : CellTallies nD τ sig ℕ) (W : Waits sig ℕ)
    (k : P F) (Q : PUnit → sProp 𝕄) :
    iprop(recs A ∗ holds sbM c (sl s) (msgB A c s) ∗ freeB (L c) s ∗ alongF c s ∗ owes (c : Thread nD τ) (O + tallyAt (recvB (L c) s) s N) W
        ∗ dutyTok ER (sendBc c s) (s / 2) 0 ∗ reached ER (sendBc c s) (s / 2) ∗ dutyTok ER (recvB (L c) s) (s / 2) 0
        ∗ (cred (tallyAt (sendBc c s) 0 N) ∗ owes (c : Thread nD τ) O W -∗ runs c k Q))
      ⊢ runs c (sendB (word (L c)) h (sl s) k) Q := by
  rw [sendB_eq]
  unfold holds freeB own runs
  iintro ⟨#HI, ⟨%fs, %hfs, Hs⟩, ⟨⟨%fd, Hd⟩, #Hrd⟩, Hal, HO, Ht, #Hrs, Ht', Hk⟩
  ihave H1 := (rec_ssB A c (sl s)) $$ HI
  icases H1 with ⟨%κ₁, #HI1⟩
  ihave H2 := (rec_rsB A (L c) (sl s)) $$ HI
  icases H2 with ⟨%κ₂, #HI2⟩
  iapply (Rounds.wp_send_pointsTo_with 𝒱₀ ER (Rd A) (c : Thread nD τ) none (c' := (L c : Thread nD τ)) (src := slotM sbM (sl s)) (dst := slotM rbM (sl s))
      (sS := .dma (ssB (sl s))) (sem := .dma (rsB (sl s))) (q := fullShare) (fs := fs) (fd := fd) (F := alongF c s) (κ₁ := κ₁) (κ₂ := κ₂)
      (r₁ := s / 2) (r₂ := s / 2) (d₁ := 0) (d₂ := 0)
      (by rw [duties_ssB A c s hs]; exact Finset.mem_singleton_self _) (by rw [duties_rsB A (L c) s hs]; exact Finset.mem_singleton_self _)
      s 0 N (credit_rb (sl s)) (amount_ssB A c s _) (amount_rsB A (L c) s _) O rfl (W := W)
      (by rw [pay_ssB]; unfold own; exact exists_intro (Φ := fun f => ((slotM sbM (sl s)).view.loc (c : Thread nD τ) ↦[(slotM sbM (sl s)).view.set]{fullShare} f : sProp 𝕄)) fs)
      (by
        rw [pay_rsB, R_L]
        iintro ⟨H, Hal⟩
        isplitl [H]
        · unfold holds
          iexists ((slotM rbM (sl s)).view.write (Elt F) fd ((slotM sbM (sl s)).view.read (Elt F) fs) Finset.univ)
          isplitr
          · ipureintro; rw [read_landed sbM rbM, hfs]
          · iexact H
        · iexact Hal)) $$ [Hs Hd Hal HO Ht Ht']
  · isplitr; · iexact HI1
    isplitr; · iexact HI2
    isplitl [Hs]; · iexact Hs
    isplitl [Hd Hal]
    · isplitl [Hd]; · iexact Hd
      iexact Hal
    isplitl [HO]; · iexact HO
    isplitl [Ht]; · iexact Ht
    isplitr; · iexact Hrs
    isplitl [Ht']; · iexact Ht'
    iexact Hrd
  iexact Hk

end Cert.Ring
-- ==== Proof.Waits.lean ====
/-
  The waits of a step, the credits, and the handshake.
-/
module

public import proofs.«01_k».proof.Proof.Talk

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (A : Ins F)

/-! ## The four waits -/

/-- Device `c`'s place on its four transfer semaphores for step `s`. -/
def poss (c : Dev nD) (s : ℕ) : sProp 𝕄 :=
  iprop((atPos ER (sendFc c s) (s / 2) ∅ 0 ∗ reached ER (sendFc c s) (s / 2)) ∗ atPos ER (recvF c s) (s / 2) ∅ 0
    ∗ (atPos ER (sendBc c s) (s / 2) ∅ 0 ∗ reached ER (sendBc c s) (s / 2)) ∗ atPos ER (recvB c s) (s / 2) ∅ 0)

/-- What the waits of step `s` give. -/
def arrived (c : Dev nD) (s : ℕ) : sProp 𝕄 :=
  iprop(own sfM c (sl s) ∗ (holds rfM c (sl s) (msgF A (L c) s) ∗ alongB (L c) s) ∗ own sbM c (sl s) ∗ (holds rbM c (sl s) (msgB A (R c) s) ∗ alongF (R c) s)
    ∗ poss c (s + 2) ∗ reached ER (recvF c (s + 2)) ((s + 2) / 2) ∗ reached ER (recvB c (s + 2)) ((s + 2) / 2))

theorem waits_wp (c : Dev nD) (s : ℕ) (hs : s ≤ 30) (O : CellTallies nD τ sig ℕ) (hO : Above O (2 * s + 3)) (W : Waits sig ℕ)
    (k : P F) (Q : PUnit → sProp 𝕄) :
    iprop(recs A ∗ levAts lvls lev ∗ owes (c : Thread nD τ) O W
        ∗ cred (tallyAt (sendFc c s) 0 N) ∗ cred (tallyAt (recvF c s) s N) ∗ cred (tallyAt (sendBc c s) 0 N) ∗ cred (tallyAt (recvB c s) s N)
        ∗ poss c s
        ∗ (arrived A c s ∗ (∃ W', owes (c : Thread nD τ) O W') -∗ runs c k Q))
      ⊢ runs c (waits (sl s) k) Q := by
  unfold arrived poss waits runs
  rw [show sendFc c (s + 2) = sendFc c s from by unfold sendFc; rw [sl_add_two], show recvF c (s + 2) = recvF c s from by unfold recvF; rw [sl_add_two],
    show sendBc c (s + 2) = sendBc c s from by unfold sendBc; rw [sl_add_two], show recvB c (s + 2) = recvB c s from by unfold recvB; rw [sl_add_two],
    show (s + 2) / 2 = s / 2 + 1 from by omega]
  iintro ⟨#HI, #Hlev, HO, Hc1, Hc2, Hc3, Hc4, ⟨⟨Ha1, -⟩, Ha2, ⟨Ha3, -⟩, Ha4⟩, Hk⟩
  ihave H1 := (rec_ssF A c (sl s)) $$ HI
  icases H1 with ⟨%κ₁, #HI1⟩
  ihave H2 := (rec_rsF A c (sl s)) $$ HI
  icases H2 with ⟨%κ₂, #HI2⟩
  ihave H3 := (rec_ssB A c (sl s)) $$ HI
  icases H3 with ⟨%κ₃, #HI3⟩
  ihave H4 := (rec_rsB A c (sl s)) $$ HI
  icases H4 with ⟨%κ₄, #HI4⟩
  rw [← credit_sf (sl s)]
  iapply (Rounds.wp_wait_rest_token 𝒱₀ ER (Rd A) (c : Thread nD τ) none (κ := κ₁) (sm := .dma (ssF (sl s)))
      (wpE_waitDma2_eq 𝒱₀ (c : Thread nD τ) none Set.univ) (Set.mem_univ _) 0 (O := O) (R := s / 2) (m := 0) (T := ∅)
      ((Nat.zero_add _).trans ((credit_sf (sl s)).trans (expect_ssF A c s hs).symm))) $$ [Hc1 HO Ha1]
  · isplitr; · iexact HI1
    isplitl [Hc1]; · iexact Hc1
    isplitl [HO]; · iexact HO
    isplitr
    · iapply (mayWait c (.dma (ssF (sl s))) 0 (by omega) O (hO.mono (by rw [kd_ssF]; show 0 + 1 ≤ _; omega))); iexact Hlev
    iexact Ha1
  iintro ⟨HO, Ha1, #Hr1, Hp1⟩
  rw [credit_sf (sl s), ← credit_rf (sl s)]
  iapply (Rounds.wp_wait_rest_token 𝒱₀ ER (Rd A) (c : Thread nD τ) none (κ := κ₂) (sm := .dma (rsF (sl s)))
      (wpE_waitDma2_eq 𝒱₀ (c : Thread nD τ) none Set.univ) (Set.mem_univ _) s (O := O) (R := s / 2) (m := 0) (T := ∅)
      ((Nat.zero_add _).trans ((credit_rf (sl s)).trans (expect_rsF A c s hs).symm))) $$ [Hc2 HO Ha2]
  · isplitr; · iexact HI2
    isplitl [Hc2]; · iexact Hc2
    isplitl [HO]; · iexact HO
    isplitr
    · iapply (mayWait c (.dma (rsF (sl s))) s (by omega) O (hO.mono (by rw [kd_rsF]; show 2 * s + 2 + 1 ≤ _; omega))); iexact Hlev
    iexact Ha2
  iintro ⟨HO, Ha2, #Hr2, Hp2⟩
  rw [credit_rf (sl s), ← credit_sb (sl s)]
  iapply (Rounds.wp_wait_rest_token 𝒱₀ ER (Rd A) (c : Thread nD τ) none (κ := κ₃) (sm := .dma (ssB (sl s)))
      (wpE_waitDma2_eq 𝒱₀ (c : Thread nD τ) none Set.univ) (Set.mem_univ _) 0 (O := O) (R := s / 2) (m := 0) (T := ∅)
      ((Nat.zero_add _).trans ((credit_sb (sl s)).trans (expect_ssB A c s hs).symm))) $$ [Hc3 HO Ha3]
  · isplitr; · iexact HI3
    isplitl [Hc3]; · iexact Hc3
    isplitl [HO]; · iexact HO
    isplitr
    · iapply (mayWait c (.dma (ssB (sl s))) 0 (by omega) O (hO.mono (by rw [kd_ssB]; show 0 + 1 ≤ _; omega))); iexact Hlev
    iexact Ha3
  iintro ⟨HO, Ha3, #Hr3, Hp3⟩
  rw [credit_sb (sl s), ← credit_rb (sl s)]
  iapply (Rounds.wp_wait_rest_token 𝒱₀ ER (Rd A) (c : Thread nD τ) none (κ := κ₄) (sm := .dma (rsB (sl s)))
      (wpE_waitDma2_eq 𝒱₀ (c : Thread nD τ) none Set.univ) (Set.mem_univ _) s (O := O) (R := s / 2) (m := 0) (T := ∅)
      ((Nat.zero_add _).trans ((credit_rb (sl s)).trans (expect_rsB A c s hs).symm))) $$ [Hc4 HO Ha4]
  · isplitr; · iexact HI4
    isplitl [Hc4]; · iexact Hc4
    isplitl [HO]; · iexact HO
    isplitr
    · iapply (mayWait c (.dma (rsB (sl s))) s (by omega) O (hO.mono (by rw [kd_rsB]; show 2 * s + 2 + 1 ≤ _; omega))); iexact Hlev
    iexact Ha4
  iintro ⟨HO, Ha4, #Hr4, Hp4⟩
  ihave Hp1 := (Entails.of_eq (rest_ssF A c s hs)) $$ Hp1
  ihave Hp2 := (Entails.of_eq (rest_rsF A c s hs)) $$ Hp2
  ihave Hp3 := (Entails.of_eq (rest_ssB A c s hs)) $$ Hp3
  ihave Hp4 := (Entails.of_eq (rest_rsB A c s hs)) $$ Hp4
  iapply Hk
  isplitr [HO]
  · isplitl [Hp1]; · iexact Hp1
    isplitl [Hp2]; · iexact Hp2
    isplitl [Hp3]; · iexact Hp3
    isplitl [Hp4]; · iexact Hp4
    isplitl
    · isplitl [Ha1]
      · isplitl [Ha1]; · iexact Ha1
        iexact Hr1
      isplitl [Ha2]; · iexact Ha2
      isplitl [Ha3]
      · isplitl [Ha3]; · iexact Ha3
        iexact Hr3
      iexact Ha4
    isplitr; · iexact Hr2
    iexact Hr4
  · iexists _; iexact HO

/-! ## Credits -/

/-- How many credits device `c` has taken before step `s`: `s - 2`, and all 29 after the last step. -/
def credPos (g : GSem nD τ sig) (s : ℕ) : sProp 𝕄 :=
  if s ≤ 30 then iprop(∃ S : Finset ℕ, atPos ER g 0 S (s - 2)) else iprop(atPos ER g 1 ∅ 0)

theorem duties_crF (c : Dev nD) : (Rd A).duties (creditF c) 0 = Finset.range 29 := by rw [duties_of, kd_crF]; rfl
theorem duties_crB (c : Dev nD) : (Rd A).duties (creditB c) 0 = Finset.range 29 := by rw [duties_of, kd_crB]; rfl
theorem expect_crF (c : Dev nD) : (Rd A).expect (creditF c) 0 = 29 := by
  rw [expect_of, kd_crF]; show (Finset.range 29).card * 1 = 29; rw [Finset.card_range]
theorem expect_crB (c : Dev nD) : (Rd A).expect (creditB c) 0 = 29 := by
  rw [expect_of, kd_crB]; show (Finset.range 29).card * 1 = 29; rw [Finset.card_range]

theorem pay_crF (c : Dev nD) (d : ℕ) : (Rd A).payload (creditF c) 0 d = iprop(emp) := by rw [payload_of, kd_crF]; rfl
theorem pay_crB (c : Dev nD) (d : ℕ) : (Rd A).payload (creditB c) 0 d = iprop(emp) := by rw [payload_of, kd_crB]; rfl

/-- One credit taken. -/
theorem credit_wp (c : Dev nD) (sm : Sem sig) (κ : ℕ) (hX : (Rd A).expect (cell c (.reg sm)) 0 = 29) (s : ℕ) (h2 : 2 ≤ s) (hs : s ≤ 30)
    (hl : ∀ ι, levK (kd (.reg sm)) ι = 2 * ι + 3)
    (O : CellTallies nD τ sig ℕ) (hO : Above O (2 * s)) (W : Waits sig ℕ) (k : PUnit → P F) (Q : PUnit → sProp 𝕄) :
    iprop(cellInv ER (Rd A) κ (cell c (.reg sm)) ∗ levAts lvls lev ∗ owes (c : Thread nD τ) O W ∗ cred (tallyAt (cell c (.reg sm)) (s - 2) 1)
        ∗ credPos (cell c (.reg sm)) s ∗ (credPos (cell c (.reg sm)) (s + 1) ∗ (∃ W', owes (c : Thread nD τ) O W') -∗ runs c (k ⟨⟩) Q))
      ⊢ runs c (.op (.semWait sm (1#32 : BitVec 32).toInt) k) Q := by
  rw [show (1#32 : BitVec 32).toInt = ((1 : ℕ) : Int) from rfl]
  unfold credPos runs
  rw [if_pos hs]
  iintro ⟨#HI, #Hlev, HO, Hc, ⟨%S, Ha⟩, Hk⟩
  have hmw := mayWait (F := F) c (.reg sm) (s - 2) (by omega) O (hO.mono (by rw [hl]; omega))
  by_cases h : s ≤ 29
  · rw [if_pos (show s + 1 ≤ 30 by omega)]
    iapply (Rounds.wp_wait 𝒱₀ ER (Rd A) (c : Thread nD τ) none (κ := κ) (sm := .reg sm) (k' := 1) (wpE_semWait_eq 𝒱₀ (c : Thread nD τ) none Set.univ) (Set.mem_univ _)
        (cr := Finsupp.single (s - 2) 1) {(SemLoc.reg sm, s - 2)} (O := O) (R := 0) (m := s - 2) (T := S) (by rw [Util.total_single]) (image_single_subset _ _ _)) $$ [Hc HO Ha]
    · isplitr; · iexact HI
      isplitl [Hc]; · iexact Hc
      isplitl [HO]; · iexact HO
      isplitr; · iapply hmw; iexact Hlev
      iexact Ha
    iintro %S' ⟨-, HO, Ha, -⟩
    iapply Hk
    isplitl [Ha]
    · iexists S'; rw [show s + 1 - 2 = s - 2 + 1 from by omega]; iexact Ha
    · iexists _; iexact HO
  · rw [if_neg (show ¬ s + 1 ≤ 30 by omega)]
    iapply (Rounds.wp_wait_rest_token 𝒱₀ ER (Rd A) (c : Thread nD τ) none (κ := κ) (sm := .reg sm) (k' := 1)
        (wpE_semWait_eq 𝒱₀ (c : Thread nD τ) none Set.univ) (Set.mem_univ _) (s - 2) (O := O) (R := 0) (m := s - 2) (T := S)
        (by rw [hX]; omega)) $$ [Hc HO Ha]
    · isplitr; · iexact HI
      isplitl [Hc]; · iexact Hc
      isplitl [HO]; · iexact HO
      isplitr; · iapply hmw; iexact Hlev
      iexact Ha
    iintro ⟨HO, Ha, -, -⟩
    iapply Hk
    isplitl [Ha]; · iexact Ha
    · iexists _; iexact HO

/-- The credits that step `s` takes. -/
def gateToks (c : Dev nD) (s : ℕ) : sProp 𝕄 :=
  if 2 ≤ s then iprop(cred (tallyAt (creditF c) (s - 2) 1) ∗ cred (tallyAt (creditB c) (s - 2) 1)) else iprop(emp)

theorem gate_wp (c : Dev nD) (s : ℕ) (hs : s ≤ 30) (O : CellTallies nD τ sig ℕ) (hO : Above O (2 * s)) (W : Waits sig ℕ) (k : P F) (Q : PUnit → sProp 𝕄) :
    iprop(recs A ∗ levAts lvls lev ∗ owes (c : Thread nD τ) O W ∗ gateToks c s ∗ credPos (creditF c) s ∗ credPos (creditB c) s
        ∗ (credPos (creditF c) (s + 1) ∗ credPos (creditB c) (s + 1) ∗ (∃ W', owes (c : Thread nD τ) O W') -∗ runs c k Q))
      ⊢ runs c (gate s k) Q := by
  match s, hs, hO with
  | 0, _, _ =>
    unfold gateToks credPos gate
    iintro ⟨-, -, HO, -, H1, H2, Hk⟩
    iapply Hk
    isplitl [H1]; · iexact H1
    isplitl [H2]; · iexact H2
    iexists W; iexact HO
  | 1, _, _ =>
    unfold gateToks credPos gate
    iintro ⟨-, -, HO, -, H1, H2, Hk⟩
    iapply Hk
    isplitl [H1]; · iexact H1
    isplitl [H2]; · iexact H2
    iexists W; iexact HO
  | s + 2, hs, hO =>
    unfold gateToks gate
    rw [if_pos (by omega)]
    iintro ⟨#HI, #Hlev, HO, ⟨Hc1, Hc2⟩, H1, H2, Hk⟩
    ihave HF := (rec_crF A c) $$ HI
    icases HF with ⟨%κ₁, #HI1⟩
    ihave HB := (rec_crB A c) $$ HI
    icases HB with ⟨%κ₂, #HI2⟩
    iapply (credit_wp A c crF κ₁ (expect_crF A c) (s + 2) (by omega) hs (fun ι => by rw [kd_crF]; rfl) O hO W)
    isplitr; · iexact HI1
    isplitr; · iexact Hlev
    isplitl [HO]; · iexact HO
    isplitl [Hc1]; · iexact Hc1
    isplitl [H1]; · iexact H1
    iintro ⟨H1, ⟨%W', HO⟩⟩
    iapply (credit_wp A c crB κ₂ (expect_crB A c) (s + 2) (by omega) hs (fun ι => by rw [kd_crB]; rfl) O hO W')
    isplitr; · iexact HI2
    isplitr; · iexact Hlev
    isplitl [HO]; · iexact HO
    isplitl [Hc2]; · iexact Hc2
    isplitl [H2]; · iexact H2
    iintro ⟨H2, HO⟩
    iapply Hk
    isplitl [H1]; · iexact H1
    isplitl [H2]; · iexact H2
    iexact HO

/-! ## Signals -/

/-- A signal to device `d`, which the word names. -/
theorem signal_dev (c d e : Dev nD) (he : e = d) (sm : Sem sig) (κ r n : ℕ)
    (hn : n ∈ (Rd A).duties (cell d (.reg sm)) r) (ha : (Rd A).amount (cell d (.reg sm)) r n = 1) (ι : ℕ)
    (O : CellTallies nD τ sig ℕ) (W : Waits sig ℕ) (k : PUnit → P F) (Q : PUnit → sProp 𝕄) :
    iprop(cellInv ER (Rd A) κ (cell d (.reg sm)) ∗ owes (c : Thread nD τ) (O + tallyAt (cell d (.reg sm)) ι 1) W ∗ dutyTok ER (cell d (.reg sm)) r n
        ∗ (Rd A).payload (cell d (.reg sm)) r n ∗ reached ER (cell d (.reg sm)) r ∗ (owes (c : Thread nD τ) O W -∗ runs c (k ⟨⟩) Q))
      ⊢ runs c (.op (.semSignal (Dev.tc e) sm (1#32 : BitVec 32).toInt) k) Q := by
  subst he
  rw [show (1#32 : BitVec 32).toInt = ((1 : ℕ) : Int) from rfl]
  unfold runs
  iintro ⟨#HI, HO, Ht, Hp, Hr, Hk⟩
  iapply (Rounds.wp_signal 𝒱₀ ER (Rd A) (c : Thread nD τ) none (dst := (e : Thread nD τ)) (sem := sm) (r := r) (d := n) (κ := κ) (k' := 1) hn ha ι O rfl) $$ [HO Ht Hp Hr]
  · isplitr; · iexact HI
    isplitl [HO]; · iexact HO
    isplitl [Ht]; · iexact Ht
    isplitl [Hp]; · iexact Hp
    iexact Hr
  iexact Hk

/-- What step `s` pays its credits with. -/
def payToks (c : Dev nD) (s : ℕ) : sProp 𝕄 :=
  if s ≤ 28 then iprop((dutyTok ER (creditF (L c)) 0 s ∗ reached ER (creditF (L c)) 0) ∗ dutyTok ER (creditB (R c)) 0 s ∗ reached ER (creditB (R c)) 0)
  else iprop(emp)

theorem release_wp (c : Dev nD) (s : ℕ) (hs : s ≤ 28) (h0 : k0_chk1 (word (L c))) (h1 : k0_chk2 (word (R c)))
    (O : CellTallies nD τ sig ℕ) (W : Waits sig ℕ) (k : P F) (Q : PUnit → sProp 𝕄) :
    iprop(recs A ∗ owes (c : Thread nD τ) (O + oweC c s) W ∗ payToks c s ∗ (owes (c : Thread nD τ) O W -∗ runs c k Q))
      ⊢ runs c (release (word (L c)) (word (R c)) h0 h1 k) Q := by
  unfold oweC payToks release
  rw [if_pos hs, if_pos hs, ← add_assoc]
  iintro ⟨#HI, HO, ⟨⟨Ht1, #Hr1⟩, Ht2, #Hr2⟩, Hk⟩
  ihave HF := (rec_crF A (L c)) $$ HI
  icases HF with ⟨%κ₁, #HI1⟩
  ihave HB := (rec_crB A (R c)) $$ HI
  icases HB with ⟨%κ₂, #HI2⟩
  iapply (signal_dev A c (L c) _ (Fin.ext (dev5_word (L c))) crF κ₁ 0 s (by rw [duties_crF]; exact Finset.mem_range.mpr (by omega))
    (by rw [amount_of, kd_crF]; rfl) s (O + tallyAt (creditB (R c)) s 1) W)
  isplitr; · iexact HI1
  isplitl [HO]; · iexact HO
  isplitl [Ht1]; · iexact Ht1
  isplitr; · rw [pay_crF]; iempintro
  isplitr; · iexact Hr1
  iintro HO
  iapply (signal_dev A c (R c) _ (Fin.ext (dev6_word (R c))) crB κ₂ 0 s (by rw [duties_crB]; exact Finset.mem_range.mpr (by omega))
    (by rw [amount_of, kd_crB]; rfl) s O W)
  isplitr; · iexact HI2
  isplitl [HO]; · iexact HO
  isplitl [Ht2]; · iexact Ht2
  isplitr; · rw [pay_crB]; iempintro
  isplitr; · iexact Hr2
  iexact Hk

/-! ## The handshake -/

theorem duties_bar (c : Dev nD) : (Rd A).duties (barC c) 0 = {0, 1} := by rw [duties_of, kd_bar]; rfl
theorem expect_bar (c : Dev nD) : (Rd A).expect (barC c) 0 = 2 := by rw [expect_of, kd_bar]; rfl
theorem pay_bar0 (c : Dev nD) : (Rd A).payload (barC c) 0 0 = doorF (R c) := by rw [payload_of, kd_bar]; rfl
theorem pay_bar1 (c : Dev nD) : (Rd A).payload (barC c) 0 1 = doorB (L c) := by rw [payload_of, kd_bar]; rfl
theorem rest_bar (c : Dev nD) : bigSep ((Rd A).duties (barC c) 0 \ ∅) (fun d => (Rd A).payload (barC c) 0 d)
    = iprop(doorF (R c) ∗ doorB (L c)) := by
  rw [Finset.sdiff_empty, duties_bar, bigSep_insert (by decide), bigSep_singleton, pay_bar0, pay_bar1]; rfl

/-- The handshake: the own slots to the two neighbours that write them, and theirs from them. -/
theorem shake_wp (c : Dev nD) (h0 : k0_chk1 (word (L c))) (h1 : k0_chk2 (word (R c))) (W : Waits sig ℕ) (k : P F) (Q : PUnit → sProp 𝕄) :
    iprop(recs A ∗ levAts lvls lev ∗ owes (c : Thread nD τ) (O₀ c) W
        ∗ doorF c ∗ doorB c
        ∗ (dutyTok ER (barC (L c)) 0 0 ∗ reached ER (barC (L c)) 0) ∗ (dutyTok ER (barC (R c)) 0 1 ∗ reached ER (barC (R c)) 0)
        ∗ cred (tallyAt (barC c) 0 2) ∗ atPos ER (barC c) 0 ∅ 0
        ∗ (doorF (R c) ∗ doorB (L c) ∗ atPos ER (barC c) 1 ∅ 0
            ∗ (∃ W', owes (c : Thread nD τ) (owe c 31) W') -∗ runs c k Q))
      ⊢ runs c (shake (word (L c)) (word (R c)) h0 h1 k) Q := by
  unfold shake O₀
  iintro ⟨#HI, #Hlev, HO, HF, HB, ⟨Ht1, #Hr1⟩, ⟨Ht2, #Hr2⟩, Hc, Ha, Hk⟩
  ihave H1 := (rec_bar A (L c)) $$ HI
  icases H1 with ⟨%κ₁, #HI1⟩
  ihave H2 := (rec_bar A (R c)) $$ HI
  icases H2 with ⟨%κ₂, #HI2⟩
  ihave H3 := (rec_bar A c) $$ HI
  icases H3 with ⟨%κ₃, #HI3⟩
  iapply (signal_dev A c (L c) _ (Fin.ext (dev1_word (L c))) barS κ₁ 0 0 (by rw [duties_bar]; decide)
    (by rw [amount_of, kd_bar]; rfl) 0 (owe c 31 + tallyAt (barC (R c)) 0 1) W)
  isplitr; · iexact HI1
  isplitl [HO]; · iexact HO
  isplitl [Ht1]; · iexact Ht1
  isplitl [HF]
  · rw [pay_bar0, R_L]; iexact HF
  isplitr; · iexact Hr1
  iintro HO
  iapply (signal_dev A c (R c) _ (Fin.ext (dev2_word (R c))) barS κ₂ 0 1 (by rw [duties_bar]; decide)
    (by rw [amount_of, kd_bar]; rfl) 0 (owe c 31) W)
  isplitr; · iexact HI2
  isplitl [HO]; · iexact HO
  isplitl [Ht2]; · iexact Ht2
  isplitl [HB]
  · rw [pay_bar1, L_R]; iexact HB
  isplitr; · iexact Hr2
  iintro HO
  rw [show (2#32 : BitVec 32).toInt = ((2 : ℕ) : Int) from rfl]
  unfold runs
  iapply (Rounds.wp_wait_rest_token 𝒱₀ ER (Rd A) (c : Thread nD τ) none (κ := κ₃) (sm := .reg barS) (k' := 2)
      (wpE_semWait_eq 𝒱₀ (c : Thread nD τ) none Set.univ) (Set.mem_univ _) 0 (O := owe c 31) (R := 0) (m := 0) (T := ∅)
      ((Nat.zero_add _).trans (expect_bar A c).symm)) $$ [Hc HO Ha]
  · isplitr; · iexact HI3
    isplitl [Hc]; · iexact Hc
    isplitl [HO]; · iexact HO
    isplitr
    · iapply (mayWait c (.reg barS) 0 (by omega) (owe c 31) ((above_owe c 31 le_rfl).mono (by rw [kd_bar]; show 1 + 1 ≤ _; omega))); iexact Hlev
    iexact Ha
  iintro ⟨HO, Ha, -, Hp⟩
  ihave Hp := (Entails.of_eq (rest_bar A c)) $$ Hp
  icases Hp with ⟨HF, HB⟩
  iapply Hk
  isplitl [HF]; · iexact HF
  isplitl [HB]; · iexact HB
  isplitl [Ha]; · iexact Ha
  iexists _; iexact HO

end Cert.Ring
-- ==== Proof.Steps.lean ====
/-
  The 31 steps, at a symbolic device and a symbolic step.
-/
module

public import proofs.«01_k».proof.Proof.Waits
public import Idealize.SL.BI.BigOpNat

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (A : Ins F)

/-! ## What a device holds between steps -/

/-- Besides the slots that the transfers of step `s` write: the slots for step 1, and later the own slots read at step `s - 1`. -/
def extra (c : Dev nD) (s : ℕ) : sProp 𝕄 := if s = 0 then iprop(freeF (R c) 1 ∗ freeB (L c) 1) else iprop(freeF c (s + 1) ∗ freeB c (s + 1))

/-- What of it the transfers of step `s` do not take along. -/
def kept (c : Dev nD) (s : ℕ) : sProp 𝕄 :=
  if s = 0 then iprop(freeF (R c) 1 ∗ freeB (L c) 1) else if s = 30 then iprop(freeF c 31 ∗ freeB c 31) else iprop(emp)

/-- The slots that the transfers of the next step write; after the last step, the own slots. -/
def next (c : Dev nD) (s : ℕ) : sProp 𝕄 :=
  if s = 30 then iprop(freeF c 31 ∗ freeB c 31) else iprop(freeF (R c) (s + 1) ∗ freeB (L c) (s + 1))

theorem extra_split (c : Dev nD) (s : ℕ) (hs : s ≤ 30) : extra c s ⊢ (iprop(alongF c s ∗ alongB c s ∗ kept c s) : sProp 𝕄) := by
  unfold extra alongF alongB kept
  by_cases h0 : s = 0
  · subst h0
    simp only [if_pos, show ¬ (1 ≤ 0 ∧ 0 ≤ 29) from by omega, if_false]
    iintro H
    isplitr; · iempintro
    isplitr; · iempintro
    iexact H
  · by_cases h1 : s = 30
    · subst h1
      simp only [if_pos, show ¬ (1 ≤ 30 ∧ 30 ≤ 29) from by omega, if_false, show ¬ (30 = 0) from by omega]
      iintro H
      isplitr; · iempintro
      isplitr; · iempintro
      iexact H
    · simp only [if_neg h0, if_neg h1, if_pos (show 1 ≤ s ∧ s ≤ 29 from by omega)]
      iintro ⟨H1, H2⟩
      isplitl [H1]; · iexact H1
      isplitl [H2]; · iexact H2
      iempintro

theorem next_join (c : Dev nD) (s : ℕ) (hs : s ≤ 30) : (iprop(alongF (R c) s ∗ alongB (L c) s ∗ kept c s) : sProp 𝕄) ⊢ next c s := by
  unfold next alongF alongB kept
  by_cases h0 : s = 0
  · subst h0
    simp only [if_pos, show ¬ (1 ≤ 0 ∧ 0 ≤ 29) from by omega, if_false, show ¬ (0 = 30) from by omega]
    iintro ⟨-, -, H⟩
    iexact H
  · by_cases h1 : s = 30
    · subst h1
      simp only [if_pos, show ¬ (1 ≤ 30 ∧ 30 ≤ 29) from by omega, if_false, show ¬ (30 = 0) from by omega]
      iintro ⟨-, -, H⟩
      iexact H
    · simp only [if_neg h0, if_neg h1, if_pos (show 1 ≤ s ∧ s ≤ 29 from by omega)]
      iintro ⟨H1, H2, -⟩
      isplitl [H1] <;> iassumption

/-- The tokens with which step `s` pays for its transfers, and the credit of the two it receives. -/
def moveToks (c : Dev nD) (s : ℕ) : sProp 𝕄 :=
  iprop((dutyTok ER (sendFc c s) (s / 2) 0 ∗ dutyTok ER (recvF (R c) s) (s / 2) 0 ∗ cred (tallyAt (recvF c s) s N))
    ∗ dutyTok ER (sendBc c s) (s / 2) 0 ∗ dutyTok ER (recvB (L c) s) (s / 2) 0 ∗ cred (tallyAt (recvB c s) s N))

def stepToks (c : Dev nD) (s : ℕ) : sProp 𝕄 := iprop(gateToks c s ∗ moveToks c s ∗ payToks c s)

/-- The transfers of step `s`, the products under them, and the waits. -/
theorem comm_wp (c : Dev nD) (T : (cc0_stg2_0 : Ref sig .tc).ty.Contents (Elt F)) (hT : TabOk c T) (s : ℕ) (hs : s ≤ 30)
    (h0 : k0_chk1 (word (L c))) (h1 : k0_chk2 (word (R c)))
    (O : CellTallies nD τ sig ℕ) (hO : Above O (2 * s + 3)) (W : Waits sig ℕ)
    (k : FVec F S256x2048 .f32 → FVec F S256x2048 .f32 → P F) (Q : PUnit → sProp 𝕄) :
    iprop(recs A ∗ levAts lvls lev ∗ reads A c T ∗ owes (c : Thread nD τ) (O + tallyAt (recvB (L c) s) s N + tallyAt (recvF (R c) s) s N) W
        ∗ (holds sfM c (sl s) (msgF A c s) ∗ holds sbM c (sl s) (msgB A c s)) ∗ (freeF (R c) s ∗ freeB (L c) s) ∗ extra c s
        ∗ moveToks c s ∗ poss c s
        ∗ (reads A c T ∗ (own sfM c (sl s) ∗ own sbM c (sl s)) ∗ (holds rfM c (sl s) (msgF A (L c) s) ∗ holds rbM c (sl s) (msgB A (R c) s))
            ∗ next c s ∗ poss c (s + 2) ∗ reached ER (recvF c (s + 2)) ((s + 2) / 2) ∗ reached ER (recvB c (s + 2)) ((s + 2) / 2)
            ∗ (∃ W', owes (c : Thread nD τ) O W') -∗ runs c (k (pLo A c (s + 1)) (pHi A c (s + 1))) Q))
      ⊢ runs c (comm (word (L c)) (word (R c)) h0 h1 (sl s) (s + 1) k) Q := by
  unfold comm moveToks
  iintro ⟨#HI, #Hlev, Hrd, HO, ⟨Hs1, Hs2⟩, ⟨Hf1, Hf2⟩, Hx, ⟨⟨Ht1, Ht2, Hc1⟩, Ht3, Ht4, Hc2⟩, Hp, Hk⟩
  ihave Hx := (extra_split c s hs) $$ Hx
  icases Hx with ⟨Ha1, Ha2, Hkept⟩
  unfold poss
  icases Hp with ⟨⟨Hp1, #Hr1⟩, Hp2, ⟨Hp3, #Hr3⟩, Hp4⟩
  iapply (sendF_wp A c s hs h1 (O + tallyAt (recvB (L c) s) s N) W)
  isplitr; · iexact HI
  isplitl [Hs1]; · iexact Hs1
  isplitl [Hf1]; · iexact Hf1
  isplitl [Ha2]; · iexact Ha2
  isplitl [HO]; · iexact HO
  isplitl [Ht1]; · iexact Ht1
  isplitr; · iexact Hr1
  isplitl [Ht2]; · iexact Ht2
  iintro ⟨Hc3, HO⟩
  iapply (sendB_wp A c s hs h0 O W)
  isplitr; · iexact HI
  isplitl [Hs2]; · iexact Hs2
  isplitl [Hf2]; · iexact Hf2
  isplitl [Ha1]; · iexact Ha1
  isplitl [HO]; · iexact HO
  isplitl [Ht3]; · iexact Ht3
  isplitr; · iexact Hr3
  isplitl [Ht4]; · iexact Ht4
  iintro ⟨Hc4, HO⟩
  iapply (fetch_wp A c T hT 0 (s + 1))
  isplitl [Hrd]; · iexact Hrd
  iintro Hrd
  iapply (fetch_wp A c T hT 1 (s + 1))
  isplitl [Hrd]; · iexact Hrd
  iintro Hrd
  iapply (waits_wp A c s hs O hO W)
  isplitr; · iexact HI
  isplitr; · iexact Hlev
  isplitl [HO]; · iexact HO
  isplitl [Hc3]; · iexact Hc3
  isplitl [Hc1]; · iexact Hc1
  isplitl [Hc4]; · iexact Hc4
  isplitl [Hc2]; · iexact Hc2
  isplitl [Hp1 Hp2 Hp3 Hp4]
  · unfold poss
    isplitl [Hp1]
    · isplitl [Hp1]; · iexact Hp1
      iexact Hr1
    isplitl [Hp2]; · iexact Hp2
    isplitl [Hp3]
    · isplitl [Hp3]; · iexact Hp3
      iexact Hr3
    iexact Hp4
  unfold arrived poss
  iintro ⟨⟨Hs1, ⟨Hv1, Ha1⟩, Hs2, ⟨Hv2, Ha2⟩, Hp, #Hr5, #Hr6⟩, HO⟩
  iapply Hk
  isplitl [Hrd]; · iexact Hrd
  isplitl [Hs1 Hs2]
  · isplitl [Hs1] <;> iassumption
  isplitl [Hv1 Hv2]
  · isplitl [Hv1] <;> iassumption
  isplitl [Ha1 Ha2 Hkept]
  · iapply (next_join c s hs)
    isplitl [Ha2]; · iexact Ha2
    isplitl [Ha1]; · iexact Ha1
    iexact Hkept
  isplitl [Hp]; · iexact Hp
  isplitr; · iexact Hr5
  isplitr; · iexact Hr6
  iexact HO

/-- What device `c` holds before step `s`, but for the debts and the tokens. -/
def before (c : Dev nD) (T : (cc0_stg2_0 : Ref sig .tc).ty.Contents (Elt F)) (f : (cc0_stg3_0 : Ref sig .tc).ty.Contents (Elt F)) (s : ℕ) : sProp 𝕄 :=
  iprop(reads A c T ∗ pt c cc0_stg3_0 f
    ∗ (holds sfM c (sl s) (msgF A c s) ∗ holds sbM c (sl s) (msgB A c s)) ∗ (own sfM c (sl (s + 1)) ∗ own sbM c (sl (s + 1)))
    ∗ (freeF (R c) s ∗ freeB (L c) s) ∗ extra c s ∗ (poss c s ∗ poss c (s + 1)) ∗ credPos (creditF c) s ∗ credPos (creditB c) s)

/-- What it holds after the last step. -/
def after (c : Dev nD) (T : (cc0_stg2_0 : Ref sig .tc).ty.Contents (Elt F)) (f : (cc0_stg3_0 : Ref sig .tc).ty.Contents (Elt F)) : sProp 𝕄 :=
  iprop(reads A c T ∗ pt c cc0_stg3_0 (stored (outLo A c) (outHi A c) f)
    ∗ (own sfM c 0 ∗ own sbM c 0) ∗ (own sfM c 1 ∗ own sbM c 1)
    ∗ (own rfM c 0 ∗ own rbM c 0) ∗ (own rfM c 1 ∗ own rbM c 1) ∗ (poss c 31 ∗ poss c 32) ∗ credPos (creditF c) 31 ∗ credPos (creditB c) 31
    ∗ ∃ W, owes (c : Thread nD τ) (0 : CellTallies nD τ sig ℕ) W)

/-- Step `s`'s wait for credits and its transfers, from what is held before it. -/
theorem step_wp (c : Dev nD) (T : (cc0_stg2_0 : Ref sig .tc).ty.Contents (Elt F)) (hT : TabOk c T) (f : (cc0_stg3_0 : Ref sig .tc).ty.Contents (Elt F))
    (n s : ℕ) (hs : s + n = 30) (h0 : k0_chk1 (word (L c))) (h1 : k0_chk2 (word (R c))) (W : Waits sig ℕ)
    (k : FVec F S256x2048 .f32 → FVec F S256x2048 .f32 → P F) (Q : PUnit → sProp 𝕄) :
    iprop(recs A ∗ levAts lvls lev ∗ before A c T f s ∗ owes (c : Thread nD τ) (owe c (n + 1)) W ∗ stepToks c s
        ∗ (reads A c T ∗ pt c cc0_stg3_0 f ∗ (own sfM c (sl (s + 1)) ∗ own sbM c (sl (s + 1)))
            ∗ (own sfM c (sl s) ∗ own sbM c (sl s)) ∗ (holds rfM c (sl s) (msgF A (L c) s) ∗ holds rbM c (sl s) (msgB A (R c) s))
            ∗ next c s ∗ (poss c (s + 1) ∗ poss c (s + 2)) ∗ (reached ER (recvF c (s + 2)) ((s + 2) / 2) ∗ reached ER (recvB c (s + 2)) ((s + 2) / 2))
            ∗ (credPos (creditF c) (s + 1) ∗ credPos (creditB c) (s + 1)) ∗ payToks c s
            ∗ (∃ W', owes (c : Thread nD τ) (owe c n + oweC c s) W') -∗ runs c (k (pLo A c (s + 1)) (pHi A c (s + 1))) Q))
      ⊢ runs c (gate s <| comm (word (L c)) (word (R c)) h0 h1 (sl s) (s + 1) k) Q := by
  unfold before stepToks
  iintro ⟨#HI, #Hlev, ⟨Hrd, Hout, Hs, Hs', Hf, Hx, ⟨Hp, Hp'⟩, Hq1, Hq2⟩, HO, ⟨Hg, Hm, Hpay⟩, Hk⟩
  iapply (gate_wp A c s (by omega) (owe c (n + 1)) ((above_owe c (n + 1) (by omega)).mono (by omega)) W)
  isplitr; · iexact HI
  isplitr; · iexact Hlev
  isplitl [HO]; · iexact HO
  isplitl [Hg]; · iexact Hg
  isplitl [Hq1]; · iexact Hq1
  isplitl [Hq2]; · iexact Hq2
  iintro ⟨Hq1, Hq2, ⟨%W', HO⟩⟩
  iapply (comm_wp A c T hT s (by omega) h0 h1 (owe c n + oweC c s)
    (((above_owe c n (by omega)).mono (by omega)).add (above_oweC c s)) W')
  isplitr; · iexact HI
  isplitr; · iexact Hlev
  isplitl [Hrd]; · iexact Hrd
  isplitl [HO]
  · rw [show owe c (n + 1) = owe c n + oweC c s + tallyAt (recvB (L c) s) s N + tallyAt (recvF (R c) s) s N from by
      rw [owe, show 30 - n = s from by omega]]
    iexact HO
  isplitl [Hs]; · iexact Hs
  isplitl [Hf]; · iexact Hf
  isplitl [Hx]; · iexact Hx
  isplitl [Hm]; · iexact Hm
  isplitl [Hp]; · iexact Hp
  iintro ⟨Hrd, Ho, Hv, Hn, Hp, Hr1, Hr2, HO⟩
  iapply Hk
  isplitl [Hrd]; · iexact Hrd
  isplitl [Hout]; · iexact Hout
  isplitl [Hs']; · iexact Hs'
  isplitl [Ho]; · iexact Ho
  isplitl [Hv]; · iexact Hv
  isplitl [Hn]; · iexact Hn
  isplitl [Hp Hp']
  · isplitl [Hp'] <;> iassumption
  isplitl [Hr1 Hr2]
  · isplitl [Hr1] <;> iassumption
  isplitl [Hq1 Hq2]
  · isplitl [Hq1] <;> iassumption
  isplitl [Hpay]; · iexact Hpay
  iexact HO

/-- The sums put to send, and everything in place for the next step. -/
theorem accum_step (c : Dev nD) (T : (cc0_stg2_0 : Ref sig .tc).ty.Contents (Elt F)) (f : (cc0_stg3_0 : Ref sig .tc).ty.Contents (Elt F))
    (s : ℕ) (hs : s ≤ 29) (k : P F) (Q : PUnit → sProp 𝕄) :
    iprop(reads A c T ∗ pt c cc0_stg3_0 f ∗ (own sfM c (sl (s + 1)) ∗ own sbM c (sl (s + 1)))
        ∗ (own sfM c (sl s) ∗ own sbM c (sl s)) ∗ (holds rfM c (sl s) (msgF A (L c) s) ∗ holds rbM c (sl s) (msgB A (R c) s))
        ∗ next c s ∗ (poss c (s + 1) ∗ poss c (s + 2)) ∗ (reached ER (recvF c (s + 2)) ((s + 2) / 2) ∗ reached ER (recvB c (s + 2)) ((s + 2) / 2))
        ∗ (credPos (creditF c) (s + 1) ∗ credPos (creditB c) (s + 1))
        ∗ (before A c T f (s + 1) -∗ runs c k Q))
      ⊢ runs c (accum (sl s) (sl (s + 1)) (pLo A c (s + 1)) (pHi A c (s + 1)) k) Q := by
  unfold before next extra
  rw [if_neg (show ¬ s = 30 by omega), if_neg (show ¬ s + 1 = 0 by omega)]
  iintro ⟨Hrd, Hout, ⟨Hs1, Hs2⟩, ⟨Ho1, Ho2⟩, ⟨Hv1, Hv2⟩, Hn, Hp, ⟨Hr1, Hr2⟩, ⟨Hq1, Hq2⟩, Hk⟩
  iapply (accum_wp c (sl s) (sl (s + 1)) (pLo A c (s + 1)) (pHi A c (s + 1)) (msgF A (L c) s) (msgB A (R c) s))
  isplitl [Hv1]; · iexact Hv1
  isplitl [Hv2]; · iexact Hv2
  isplitl [Hs1]; · iexact Hs1
  isplitl [Hs2]; · iexact Hs2
  iintro ⟨Hv1, Hv2, Hs1, Hs2⟩
  iapply Hk
  isplitl [Hrd]; · iexact Hrd
  isplitl [Hout]; · iexact Hout
  isplitl [Hs1 Hs2]
  · rw [msgF, msgB]
    isplitl [Hs1]; · iexact Hs1
    iexact Hs2
  isplitl [Ho1 Ho2]
  · rw [show sl (s + 1 + 1) = sl s from sl_add_two s]
    isplitl [Ho1] <;> iassumption
  isplitl [Hn]; · iexact Hn
  isplitl [Hv1 Hv2 Hr1 Hr2]
  · unfold freeF freeB
    rw [show s + 1 + 1 = s + 2 from rfl, show own rfM c (sl (s + 2)) = (own rfM c (sl s) : sProp 𝕄) from by rw [sl_add_two],
      show own rbM c (sl (s + 2)) = (own rbM c (sl s) : sProp 𝕄) from by rw [sl_add_two]]
    isplitl [Hv1 Hr1]
    · isplitl [Hv1] <;> iassumption
    · isplitl [Hv2] <;> iassumption
  isplitl [Hp]; · iexact Hp
  isplitl [Hq1] <;> iassumption

/-- The steps from `s` on. -/
theorem steps_wp (c : Dev nD) (T : (cc0_stg2_0 : Ref sig .tc).ty.Contents (Elt F)) (hT : TabOk c T) (f : (cc0_stg3_0 : Ref sig .tc).ty.Contents (Elt F))
    (h0 : k0_chk1 (word (L c))) (h1 : k0_chk2 (word (R c))) (Q : PUnit → sProp 𝕄) :
    ∀ (n s : ℕ) (hs : s + n = 30) (W : Waits sig ℕ),
    iprop(recs A ∗ levAts lvls lev ∗ before A c T f s ∗ owes (c : Thread nD τ) (owe c (n + 1)) W ∗ bigSep (Finset.range (n + 1)) (fun i => stepToks c (30 - i))
        ∗ (after A c T f -∗ |={Set.univ}=> Q ⟨⟩))
      ⊢ runs c (steps (word (L c)) (word (R c)) h0 h1 n s) Q
  | 0, s, hs, W => by
    obtain rfl : s = 30 := by omega
    rw [bigSep_range_succ, Finset.range_zero, bigSep_empty]
    unfold steps after
    iintro ⟨#HI, #Hlev, Hb, HO, Ht, Hk⟩
    iapply (step_wp A c T hT f 0 30 rfl h0 h1 W)
    isplitr; · iexact HI
    isplitr; · iexact Hlev
    isplitl [Hb]; · iexact Hb
    isplitl [HO]; · iexact HO
    isplitl [Ht]; · icases Ht with ⟨Ht, -⟩; iexact Ht
    unfold next oweC owe
    rw [if_pos (rfl : (30 : ℕ) = 30), if_neg (show ¬ (30 : ℕ) ≤ 28 by omega), add_zero]
    iintro ⟨Hrd, Hout, Hs, Ho, ⟨Hv1, Hv2⟩, ⟨Hn1, Hn2⟩, Hp, -, ⟨Hq1, Hq2⟩, -, HO⟩
    iapply (last_wp c (sl 30) (pLo A c 31) (pHi A c 31) (msgF A (L c) 30) (msgB A (R c) 30) f)
    isplitl [Hv1]; · iexact Hv1
    isplitl [Hv2]; · iexact Hv2
    isplitl [Hout]; · iexact Hout
    iintro ⟨Hv1, Hv2, Hout⟩
    iapply Hk
    isplitl [Hrd]; · iexact Hrd
    isplitl [Hout]; · iexact Hout
    isplitl [Ho]; · iexact Ho
    isplitl [Hs]; · iexact Hs
    isplitl [Hv1 Hv2]
    · isplitl [Hv1]; · iexact Hv1
      iexact Hv2
    isplitl [Hn1 Hn2]
    · unfold freeF freeB
      icases Hn1 with ⟨Hn1, -⟩
      icases Hn2 with ⟨Hn2, -⟩
      isplitl [Hn1]; · iexact Hn1
      iexact Hn2
    isplitl [Hp]; · iexact Hp
    isplitl [Hq1]; · iexact Hq1
    isplitl [Hq2]; · iexact Hq2
    iexact HO
  | 1, s, hs, W => by
    obtain rfl : s = 29 := by omega
    rw [bigSep_range_succ]
    rw [steps]
    iintro ⟨#HI, #Hlev, Hb, HO, ⟨Ht', Ht⟩, Hk⟩
    iapply (step_wp A c T hT f 1 29 rfl h0 h1 W)
    isplitr; · iexact HI
    isplitr; · iexact Hlev
    isplitl [Hb]; · iexact Hb
    isplitl [HO]; · iexact HO
    isplitl [Ht']; · iexact Ht'
    iintro ⟨Hrd, Hout, Hs, Ho, Hv, Hn, Hp, Hr, Hq, -, ⟨%W', HO⟩⟩
    iapply (accum_step A c T f 29 le_rfl)
    isplitl [Hrd]; · iexact Hrd
    isplitl [Hout]; · iexact Hout
    isplitl [Hs]; · iexact Hs
    isplitl [Ho]; · iexact Ho
    isplitl [Hv]; · iexact Hv
    isplitl [Hn]; · iexact Hn
    isplitl [Hp]; · iexact Hp
    isplitl [Hr]; · iexact Hr
    isplitl [Hq]; · iexact Hq
    iintro Hb
    iapply (steps_wp c T hT f h0 h1 Q 0 30 rfl W')
    isplitr; · iexact HI
    isplitr; · iexact Hlev
    isplitl [Hb]; · iexact Hb
    isplitl [HO]
    · rw [show owe c 1 + oweC c 29 = owe c (0 + 1) from by unfold oweC; rw [if_neg (by omega), add_zero]]
      iexact HO
    isplitl [Ht]; · iexact Ht
    iexact Hk
  | n + 2, s, hs, W => by
    rw [bigSep_range_succ, show 30 - (n + 2) = s from by omega]
    rw [steps]
    iintro ⟨#HI, #Hlev, Hb, HO, ⟨Ht', Ht⟩, Hk⟩
    iapply (step_wp A c T hT f (n + 2) s hs h0 h1 W)
    isplitr; · iexact HI
    isplitr; · iexact Hlev
    isplitl [Hb]; · iexact Hb
    isplitl [HO]; · iexact HO
    isplitl [Ht']; · iexact Ht'
    iintro ⟨Hrd, Hout, Hs, Ho, Hv, Hn, Hp, Hr, Hq, Hpay, ⟨%W', HO⟩⟩
    iapply (release_wp A c s (by omega) h0 h1 (owe c (n + 2)) W')
    isplitr; · iexact HI
    isplitl [HO]; · iexact HO
    isplitl [Hpay]; · iexact Hpay
    iintro HO
    iapply (accum_step A c T f s (by omega))
    isplitl [Hrd]; · iexact Hrd
    isplitl [Hout]; · iexact Hout
    isplitl [Hs]; · iexact Hs
    isplitl [Ho]; · iexact Ho
    isplitl [Hv]; · iexact Hv
    isplitl [Hn]; · iexact Hn
    isplitl [Hp]; · iexact Hp
    isplitl [Hr]; · iexact Hr
    isplitl [Hq]; · iexact Hq
    iintro Hb
    iapply (steps_wp c T hT f h0 h1 Q (n + 1) (s + 1) (by omega) W')
    isplitr; · iexact HI
    isplitr; · iexact Hlev
    isplitl [Hb]; · iexact Hb
    isplitl [HO]; · iexact HO
    isplitl [Ht]; · iexact Ht
    iexact Hk

end Cert.Ring
-- ==== Proof.Body.lean ====
/-
  The body of the kernel from its first load to its return, on one device: the two neighbours read from the table, the
  handshake, the first messages, the steps, and the semaphores back at zero.
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (A : Ins F)

theorem chunk_L (c : Dev nD) : chunk 0 c 0 = L c := by revert c; decide
theorem chunk_R (c : Dev nD) : chunk 1 c 0 = R c := by revert c; decide

/-- The right neighbour read, from the word on; and the left one. -/
def endsR (k : (v0 v1 : BitVec 32) → k0_chk1 v0 → k0_chk2 v1 → P F) (v0 : BitVec 32) (h0 : k0_chk1 v0) (v1 : BitVec 32) : P F :=
  .op (.assume (k0_chk2 v1) (k0_chk2.dec v1)) fun h1 => k v0 v1 h0 h1.down
def endsL (k : (v0 v1 : BitVec 32) → k0_chk1 v0 → k0_chk2 v1 → P F) (v0 : BitVec 32) : P F :=
  .op (.assume (k0_chk1 v0) (k0_chk1.dec v0)) fun h0 =>
  .op (.load tM (colR 1 0) (View.loadsAt_rect (View.loads_smem_one rfl numel1_S1x1))) fun f =>
  endsR k v0 h0.down (f (Shape.Idx.first (numel1_S1x1.symm ▸ Nat.one_pos)))

theorem ends_eq (k : (v0 v1 : BitVec 32) → k0_chk1 v0 → k0_chk2 v1 → P F) :
    ends k = .op (.load tM (colR 0 0) (View.loadsAt_rect (View.loads_smem_one rfl numel1_S1x1)))
      fun f => endsL k (f (Shape.Idx.first (numel1_S1x1.symm ▸ Nat.one_pos))) := rfl

/-- The two neighbours, read from the table. -/
theorem ends_wp (c : Dev nD) (T : (cc0_stg2_0 : Ref sig .tc).ty.Contents (Elt F)) (hT : TabOk c T)
    (k : (v0 v1 : BitVec 32) → k0_chk1 v0 → k0_chk2 v1 → P F) (Q : PUnit → sProp 𝕄) :
    iprop(pt c cc0_stg2_0 T ∗ (pt c cc0_stg2_0 T -∗ runs c (k (word (L c)) (word (R c)) (chk1_word _) (chk2_word _)) Q)) ⊢ runs c (ends k) Q := by
  rw [ends_eq]
  unfold runs
  iintro ⟨HT, Hk⟩
  iapply (wp_load 𝒱₀ (c : Thread nD τ) none Set.univ (m := tM) (S := Finset.univ) (f := T) (Finset.subset_univ _)) $$ HT
  iintro HT
  have h0 : tM.view.readAt (Elt F) (colR 0 0).toLoadRect T (Shape.Idx.first (numel1_S1x1.symm ▸ Nat.one_pos)) = word (L c) := (hT 0 0).trans (by rw [chunk_L])
  have h1 : tM.view.readAt (Elt F) (colR 1 0).toLoadRect T (Shape.Idx.first (numel1_S1x1.symm ▸ Nat.one_pos)) = word (R c) := (hT 1 0).trans (by rw [chunk_R])
  rw [h0]
  unfold endsL
  iapply (wp_assume 𝒱₀ (c : Thread nD τ) none Set.univ (chk1_word (L c)))
  iapply (wp_load 𝒱₀ (c : Thread nD τ) none Set.univ (m := tM) (S := Finset.univ) (f := T) (Finset.subset_univ _)) $$ HT
  iintro HT
  rw [h1]
  unfold endsR
  iapply (wp_assume 𝒱₀ (c : Thread nD τ) none Set.univ (chk2_word (R c)))
  iapply Hk
  iexact HT

/-! ## A two-slot buffer as its slots -/

theorem slots_disjoint (M : Memref sig .tc .vmem S2x256x2048 .bf16) : Disjoint (slotM M 0).view.set (slotM M 1).view.set := by
  rw [set_slot, set_slot, View.set_slice, View.set_slice, Finset.disjoint_map]
  exact Rect.unit_disjoint (0 : Fin 3) (.inl (show 0 + 1 ≤ 1 from Nat.le_refl 1))

theorem slots_union (M : Memref sig .tc .vmem S2x256x2048 .bf16) : (slotM M 0).view.set ∪ (slotM M 1).view.set = M.view.set := by
  rw [set_slot, set_slot, View.set_slice, View.set_slice, ← Finset.map_union, ← View.setOn_univ, View.setOn]
  refine congrArg (Finset.map M.view.emb) (Finset.eq_univ_iff_forall.mpr fun i => ?_)
  rw [Finset.mem_union]
  have h0 : (i 0 : ℕ) < 2 := (i 0).isLt
  have h1 : (i 1 : ℕ) < 256 := (i 1).isLt
  have h2 : (i 2 : ℕ) < 2048 := (i 2).isLt
  rcases (show (i 0 : ℕ) = 0 ∨ (i 0 : ℕ) = 1 by omega) with h | h
  · left; refine Rect.mem_set_unit.mpr fun a => ?_
    fin_cases a
    · exact ⟨Nat.zero_le _, by show (i 0 : ℕ) < 0 + 1; omega⟩
    · exact ⟨Nat.zero_le _, by show (i 1 : ℕ) < 0 + 256; omega⟩
    · exact ⟨Nat.zero_le _, by show (i 2 : ℕ) < 0 + 2048; omega⟩
  · right; refine Rect.mem_set_unit.mpr fun a => ?_
    fin_cases a
    · exact ⟨by show 1 ≤ (i 0 : ℕ); omega, by show (i 0 : ℕ) < 1 + 1; omega⟩
    · exact ⟨Nat.zero_le _, by show (i 1 : ℕ) < 0 + 256; omega⟩
    · exact ⟨Nat.zero_le _, by show (i 2 : ℕ) < 0 + 2048; omega⟩

/-- A buffer of two slots, whole, at some contents. -/
def both (M : Memref sig .tc .vmem S2x256x2048 .bf16) (c : Dev nD) : sProp 𝕄 :=
  iprop(∃ f : Buf (Elt F) (M.view.loc (c : Thread nD τ)), M.view.loc (c : Thread nD τ) ↦[M.view.set]{fullShare} f)

theorem both_split (M : Memref sig .tc .vmem S2x256x2048 .bf16) (c : Dev nD) : (both M c : sProp 𝕄) ⊢ iprop(own M c 0 ∗ own M c 1) := by
  unfold both own
  iintro ⟨%f, H⟩
  rw [← slots_union M]
  ihave H := (pointsTo_union (slots_disjoint M)).1 $$ H
  icases H with ⟨H0, H1⟩
  isplitl [H0]
  · iexists f; iexact H0
  · iexists f; iexact H1

theorem both_join (M : Memref sig .tc .vmem S2x256x2048 .bf16) (c : Dev nD) : iprop(own M c 0 ∗ own M c 1) ⊢ (both M c : sProp 𝕄) := by
  unfold both own
  iintro ⟨⟨%f, H0⟩, %g, H1⟩
  rw [← slots_union M]
  iexists _
  iapply (pointsTo_join (slots_disjoint M))
  isplitl [H0]; · iexact H0
  iexact H1

/-! ## The scoped semaphores, opened and closed -/

/-- The ten scoped semaphores of the protocol. -/
abbrev osem : Fin 10 → SemLoc sig := fun k => semOf k.castSucc

theorem bigSep_ten (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Device `c` at the start of every scoped semaphore. -/
def opened (c : Dev nD) : sProp 𝕄 :=
  bigSep (Finset.univ : Finset (Fin 10)) fun k => iprop(atPos ER (cell c (osem k)) 0 ∅ 0 ∗ reached ER (cell c (osem k)) 0)

/-- They are its places for the first two steps, and the facts that its neighbours wait for. -/
theorem opened_split (c : Dev nD) : (opened c : sProp 𝕄)
    ⊢ iprop((poss c 0 ∗ poss c 1) ∗ credPos (creditF c) 0 ∗ credPos (creditB c) 0
      ∗ (reached ER (recvF c 0) 0 ∗ reached ER (recvF c 1) 0) ∗ (reached ER (recvB c 0) 0 ∗ reached ER (recvB c 1) 0)
      ∗ reached ER (creditF c) 0 ∗ reached ER (creditB c) 0) := by
  unfold opened
  rw [bigSep_ten]
  unfold poss credPos
  rw [if_pos (Nat.zero_le 30), if_pos (Nat.zero_le 30)]
  iintro ⟨⟨H0, R0⟩, ⟨H1, R1⟩, ⟨H2, #R2⟩, ⟨H3, #R3⟩, ⟨H4, R4⟩, ⟨H5, R5⟩, ⟨H6, #R6⟩, ⟨H7, #R7⟩, ⟨H8, #R8⟩, ⟨H9, #R9⟩⟩
  isplitl [H0 R0 H1 R1 H2 H3 H4 R4 H5 R5 H6 H7]
  · isplitl [H0 R0 H2 H4 R4 H6]
    · isplitl [H0 R0]
      · isplitl [H0]; · iexact H0
        iexact R0
      isplitl [H2]; · iexact H2
      isplitl [H4 R4]
      · isplitl [H4]; · iexact H4
        iexact R4
      iexact H6
    · isplitl [H1 R1]
      · isplitl [H1]; · iexact H1
        iexact R1
      isplitl [H3]; · iexact H3
      isplitl [H5 R5]
      · isplitl [H5]; · iexact H5
        iexact R5
      iexact H7
  isplitl [H8]; · iexists ∅; iexact H8
  isplitl [H9]; · iexists ∅; iexact H9
  isplitr
  · isplitr; · iexact R2
    iexact R3
  isplitr
  · isplitr; · iexact R6
    iexact R7
  isplitr; · iexact R8
  iexact R9

theorem duties_none (g : GSem nD τ sig) (n : ℕ) (h : ∀ r, n ≤ r → dutK (kd g.2) r = ∅) (r : ℕ) (hr : n ≤ r) : (Rd A).duties g r = ∅ := by
  show (if g.1.2 = .tc then dutK (kd g.2) r else ∅) = ∅
  rw [h r hr]; exact ite_self _

theorem close_cell (g : GSem nD τ sig) (n : ℕ) (h : ∀ r, n ≤ r → dutK (kd g.2) r = ∅) :
    iprop((∃ κ : ℕ, cellInv ER (Rd A) κ g) ∗ atPos ER g n ∅ 0) ⊢ (|={Set.univ}=> semVal g 0 : sProp 𝕄) := by
  iintro ⟨⟨%κ, HI⟩, Ha⟩
  iapply (Rounds.cell_close ER (Rd A) (Set.mem_univ κ) id (duties_none A g n h))
  isplitl [HI] <;> iassumption

theorem late (b n : ℕ) (hn : 30 < 2 * n + b) (r : ℕ) (hr : n ≤ r) : (if 2 * r + b ≤ 30 then ({0} : Finset ℕ) else ∅) = ∅ := if_neg (by omega)
theorem later (r : ℕ) (hr : 1 ≤ r) {S : Finset ℕ} : (if r = 0 then S else ∅) = ∅ := if_neg (by omega)

/-- Every semaphore of the protocol back at zero. -/
theorem close_all (c : Dev nD) :
    iprop(recs A ∗ (poss c 31 ∗ poss c 32) ∗ credPos (creditF c) 31 ∗ credPos (creditB c) 31 ∗ atPos ER (barC c) 1 ∅ 0)
      ⊢ (|={Set.univ}=> iprop((bigSep (Finset.univ : Finset (Fin 10)) fun k => semVal (cell c (osem k)) 0) ∗ semVal (barC c) 0) : sProp 𝕄) := by
  rw [bigSep_ten]
  unfold poss credPos
  rw [if_neg (show ¬ 31 ≤ 30 by omega), if_neg (show ¬ 31 ≤ 30 by omega)]
  iintro ⟨#HI, ⟨⟨⟨P1, -⟩, P3, ⟨P5, -⟩, P7⟩, ⟨P0, -⟩, P2, ⟨P4, -⟩, P6⟩, P8, P9, P10⟩
  imod (close_cell A (cell c (semOf 0)) 16 (fun r hr => late 0 16 (by omega) r hr)) $$ [P0] with Z0
  · isplitr; · iapply (rec_at A c 0); iexact HI
    iexact P0
  imod (close_cell A (cell c (semOf 1)) 15 (fun r hr => late 1 15 (by omega) r hr)) $$ [P1] with Z1
  · isplitr; · iapply (rec_at A c 1); iexact HI
    iexact P1
  imod (close_cell A (cell c (semOf 2)) 16 (fun r hr => late 0 16 (by omega) r hr)) $$ [P2] with Z2
  · isplitr; · iapply (rec_at A c 2); iexact HI
    iexact P2
  imod (close_cell A (cell c (semOf 3)) 15 (fun r hr => late 1 15 (by omega) r hr)) $$ [P3] with Z3
  · isplitr; · iapply (rec_at A c 3); iexact HI
    iexact P3
  imod (close_cell A (cell c (semOf 4)) 16 (fun r hr => late 0 16 (by omega) r hr)) $$ [P4] with Z4
  · isplitr; · iapply (rec_at A c 4); iexact HI
    iexact P4
  imod (close_cell A (cell c (semOf 5)) 15 (fun r hr => late 1 15 (by omega) r hr)) $$ [P5] with Z5
  · isplitr; · iapply (rec_at A c 5); iexact HI
    iexact P5
  imod (close_cell A (cell c (semOf 6)) 16 (fun r hr => late 0 16 (by omega) r hr)) $$ [P6] with Z6
  · isplitr; · iapply (rec_at A c 6); iexact HI
    iexact P6
  imod (close_cell A (cell c (semOf 7)) 15 (fun r hr => late 1 15 (by omega) r hr)) $$ [P7] with Z7
  · isplitr; · iapply (rec_at A c 7); iexact HI
    iexact P7
  imod (close_cell A (cell c (semOf 8)) 1 (fun r hr => later r hr)) $$ [P8] with Z8
  · isplitr; · iapply (rec_at A c 8); iexact HI
    iexact P8
  imod (close_cell A (cell c (semOf 9)) 1 (fun r hr => later r hr)) $$ [P9] with Z9
  · isplitr; · iapply (rec_at A c 9); iexact HI
    iexact P9
  imod (close_cell A (cell c (semOf 10)) 1 (fun r hr => later r hr)) $$ [P10] with Z10
  · isplitr; · iapply (rec_at A c 10); iexact HI
    iexact P10
  imodintro
  isplitr [Z10]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  · iexact Z10

/-! ## The body -/

/-- The tokens that device `c` pays step `s`'s credits with. -/
def freeToks (c : Dev nD) (s : ℕ) : sProp 𝕄 :=
  if s ≤ 28 then iprop(dutyTok ER (creditF (L c)) 0 s ∗ dutyTok ER (creditB (R c)) 0 s) else iprop(emp)

/-- What step `s` takes from the launch. -/
def dealt (c : Dev nD) (s : ℕ) : sProp 𝕄 := iprop(gateToks c s ∗ moveToks c s ∗ freeToks c s)

theorem dealt_step (c : Dev nD) (s : ℕ) :
    iprop((reached ER (creditF (L c)) 0 ∗ reached ER (creditB (R c)) 0) ∗ dealt c s) ⊢ (stepToks c s : sProp 𝕄) := by
  unfold dealt stepToks freeToks payToks
  by_cases h : s ≤ 28
  · rw [if_pos h, if_pos h]
    iintro ⟨⟨#Hr1, #Hr2⟩, Hg, Hm, H1, H2⟩
    isplitl [Hg]; · iexact Hg
    isplitl [Hm]; · iexact Hm
    isplitl [H1]
    · isplitl [H1]; · iexact H1
      iexact Hr1
    · isplitl [H2]; · iexact H2
      iexact Hr2
  · rw [if_neg h, if_neg h]
    iintro ⟨-, Hg, Hm, Hf⟩
    isplitl [Hg]; · iexact Hg
    isplitl [Hm]; · iexact Hm
    iexact Hf

theorem bigSep_along {I : Type} [DecidableEq I] {S : Finset I} {X : sProp 𝕄} [BI.Persistent X] {Φ Ψ : I → sProp 𝕄}
    (h : ∀ i, iprop(X ∗ Φ i) ⊢ Ψ i) : iprop(X ∗ bigSep S Φ) ⊢ bigSep S Ψ :=
  (sep_mono_left (BI.bigSep_of_persistent S X)).trans (by rw [← bigSep_sep']; exact bigSep_mono fun i _ => h i)

/-- What the launch deals to device `c`, with its scoped semaphores opened. -/
def hand (c : Dev nD) : sProp 𝕄 :=
  iprop(opened c ∗ (dutyTok ER (barC (L c)) 0 0 ∗ reached ER (barC (L c)) 0) ∗ (dutyTok ER (barC (R c)) 0 1 ∗ reached ER (barC (R c)) 0)
    ∗ cred (tallyAt (barC c) 0 2) ∗ atPos ER (barC c) 0 ∅ 0 ∗ bigSep (Finset.range 31) (fun i => dealt c (30 - i)))

/-- The buffers of the body. -/
def bufs (c : Dev nD) (T : (cc0_stg2_0 : Ref sig .tc).ty.Contents (Elt F)) (f : (cc0_stg3_0 : Ref sig .tc).ty.Contents (Elt F)) : sProp 𝕄 :=
  iprop(pt c cc0_stg2_0 T ∗ pt c cc0_stg0_0 (A.x c) ∗ pt c cc0_stg1_0 (A.w c) ∗ pt c cc0_stg3_0 f
    ∗ (∃ g, pt c cc0_scratch0 g) ∗ both sfM c ∗ both rfM c ∗ both sbM c ∗ both rbM c)

theorem prog_wp (c : Dev nD) (T : (cc0_stg2_0 : Ref sig .tc).ty.Contents (Elt F)) (hT : TabOk c T) (f : (cc0_stg3_0 : Ref sig .tc).ty.Contents (Elt F))
    (W : Waits sig ℕ) (Q : PUnit → sProp 𝕄) :
    iprop(recs A ∗ levAts lvls lev ∗ owes (c : Thread nD τ) (O₀ c) W ∗ hand c ∗ bufs A c T f
        ∗ (bufs A c T (stored (outLo A c) (outHi A c) f) ∗ (bigSep (Finset.univ : Finset (Fin 10)) fun k => semVal (cell c (osem k)) 0)
            ∗ semVal (barC c) 0 ∗ (∃ W', owes (c : Thread nD τ) (0 : CellTallies nD τ sig ℕ) W') -∗ Q ⟨⟩))
      ⊢ runs c prog Q := by
  unfold hand bufs prog
  iintro ⟨#HI, #Hlev, HO, ⟨Hop, Ht1, Ht2, Hc, Ha, Hd⟩, ⟨HT, HX, HW, Hout, Hwb, Hsf, Hrf, Hsb, Hrb⟩, Hk⟩
  ihave Hop := (opened_split c) $$ Hop
  icases Hop with ⟨⟨Hp0, Hp1⟩, Hq1, Hq2, ⟨#Hf0, #Hf1⟩, ⟨#Hb0, #Hb1⟩, #HcF, #HcB⟩
  ihave Hsf := (both_split sfM c) $$ Hsf
  icases Hsf with ⟨Hsf0, Hsf1⟩
  ihave Hsb := (both_split sbM c) $$ Hsb
  icases Hsb with ⟨Hsb0, Hsb1⟩
  ihave Hrf := (both_split rfM c) $$ Hrf
  icases Hrf with ⟨Hrf0, Hrf1⟩
  ihave Hrb := (both_split rbM c) $$ Hrb
  icases Hrb with ⟨Hrb0, Hrb1⟩
  iapply (ends_wp c T hT)
  isplitl [HT]; · iexact HT
  iintro HT
  iapply (shake_wp A c (chk1_word _) (chk2_word _) W)
  isplitr; · iexact HI
  isplitr; · iexact Hlev
  isplitl [HO]; · iexact HO
  isplitl [Hrf0 Hrf1]
  · unfold doorF freeF
    isplitl [Hrf0 Hrf1]
    · isplitl [Hrf0]
      · isplitl [Hrf0]; · iexact Hrf0
        iexact Hf0
      · isplitl [Hrf1]; · iexact Hrf1
        iexact Hf1
    iexact HcB
  isplitl [Hrb0 Hrb1]
  · unfold doorB freeB
    isplitl [Hrb0 Hrb1]
    · isplitl [Hrb0]
      · isplitl [Hrb0]; · iexact Hrb0
        iexact Hb0
      · isplitl [Hrb1]; · iexact Hrb1
        iexact Hb1
    iexact HcF
  isplitl [Ht1]; · iexact Ht1
  isplitl [Ht2]; · iexact Ht2
  isplitl [Hc]; · iexact Hc
  isplitl [Ha]; · iexact Ha
  unfold doorF doorB
  iintro ⟨⟨⟨HF0, HF1⟩, #HrB⟩, ⟨⟨HB0, HB1⟩, #HrF⟩, Ha, ⟨%W', HO⟩⟩
  ihave Hd := (bigSep_along (X := iprop(reached ER (creditF (L c)) 0 ∗ reached ER (creditB (R c)) 0)) (S := Finset.range 31)
    (Φ := fun i => dealt c (30 - i)) (Ψ := fun i => stepToks c (30 - i)) (fun i => dealt_step c (30 - i))) $$ [Hd]
  · isplitr
    · isplitr; · iexact HrF
      iexact HrB
    iexact Hd
  iapply (fill_wp A c T hT)
  isplitl [HT]; · iexact HT
  isplitl [HX]; · iexact HX
  isplitl [HW]; · iexact HW
  isplitl [Hwb]; · iexact Hwb
  isplitl [Hsf0]; · iexact Hsf0
  isplitl [Hsb0]; · iexact Hsb0
  iintro ⟨Hrd, HW, Hsf0, Hsb0⟩
  iapply (steps_wp A c T hT f (chk1_word _) (chk2_word _) Q 30 0 rfl W')
  isplitr; · iexact HI
  isplitr; · iexact Hlev
  isplitl [Hrd Hout Hsf0 Hsb0 Hsf1 Hsb1 HF0 HB0 HF1 HB1 Hp0 Hp1 Hq1 Hq2]
  · unfold before extra
    rw [if_pos (rfl : (0 : ℕ) = 0)]
    isplitl [Hrd]; · iexact Hrd
    isplitl [Hout]; · iexact Hout
    isplitl [Hsf0 Hsb0]
    · isplitl [Hsf0]; · iexact Hsf0
      iexact Hsb0
    isplitl [Hsf1 Hsb1]
    · isplitl [Hsf1]; · iexact Hsf1
      iexact Hsb1
    isplitl [HF0 HB0]
    · isplitl [HF0] <;> iassumption
    isplitl [HF1 HB1]
    · isplitl [HF1] <;> iassumption
    isplitl [Hp0 Hp1]
    · isplitl [Hp0] <;> iassumption
    isplitl [Hq1] <;> iassumption
  isplitl [HO]; · iexact HO
  isplitl [Hd]; · iexact Hd
  unfold after reads
  iintro ⟨⟨HT, HX, Hwb⟩, Hout, ⟨Hsf0, Hsb0⟩, ⟨Hsf1, Hsb1⟩, ⟨Hrf0, Hrb0⟩, ⟨Hrf1, Hrb1⟩, Hp, Hq1, Hq2, HO⟩
  imod (close_all A c) $$ [Hp Hq1 Hq2 Ha] with ⟨Hz, Hz'⟩
  · isplitr; · iexact HI
    isplitl [Hp]; · iexact Hp
    isplitl [Hq1]; · iexact Hq1
    isplitl [Hq2]; · iexact Hq2
    iexact Ha
  imodintro
  iapply Hk
  isplitr [Hz Hz' HO]
  · isplitl [HT]; · iexact HT
    isplitl [HX]; · iexact HX
    isplitl [HW]; · iexact HW
    isplitl [Hout]; · iexact Hout
    isplitl [Hwb]; · iexists _; iexact Hwb
    isplitl [Hsf0 Hsf1]
    · iapply (both_join sfM c); isplitl [Hsf0] <;> iassumption
    isplitl [Hrf0 Hrf1]
    · iapply (both_join rfM c); isplitl [Hrf0] <;> iassumption
    isplitl [Hsb0 Hsb1]
    · iapply (both_join sbM c); isplitl [Hsb0] <;> iassumption
    iapply (both_join rbM c); isplitl [Hrb0] <;> iassumption
  isplitl [Hz]; · iexact Hz
  isplitl [Hz']; · iexact Hz'
  iexact HO

end Cert.Ring
-- ==== Proof.Region.lean ====
module

public import proofs.«01_k».proof.Proof.Body
public import Idealize.ShloMosaic.Lib.Pipeline.RegionTalk
public import proofs.«01_k».proof.Proof.Gen.KernelIdeal.Points

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

variable (A : Ins F)
/-! ## The result: both halves side by side -/

/-- A result index within its half. -/
def half (i : S256x4096.Idx) : S256x2048.Idx := fun
  | ⟨0, _⟩ => i 0
  | ⟨1, _⟩ => ⟨(i 1).val % 2048, Nat.mod_lt _ (by decide)⟩

/-- Two halves as one matrix. -/
def joined (lo hi : FVec F S256x2048 .f32) : (cc0_stg3_0 : Ref sig .tc).ty.Contents (Elt F) := fun i =>
  if (i 1).val < 2048 then lo (half i) else hi (half i)

theorem lo_half (i : S256x4096.Idx) (h : (i 1).val < 2048) : loR.emb (half i) = i := by
  funext a
  refine Fin.ext ?_
  match a with
  | ⟨0, _⟩ => show 0 + 1 * (i 0).val = (i 0).val; omega
  | ⟨1, _⟩ => show 0 + 1 * ((i 1).val % 2048) = (i 1).val; omega

theorem hi_half (i : S256x4096.Idx) (h : ¬ (i 1).val < 2048) : hiR.emb (half i) = i := by
  funext a
  refine Fin.ext ?_
  have hb : (i 1).val < 4096 := (i 1).isLt
  match a with
  | ⟨0, _⟩ => show 0 + 1 * (i 0).val = (i 0).val; omega
  | ⟨1, _⟩ => show 2048 + 1 * ((i 1).val % 2048) = (i 1).val; omega

/-- The two stores cover the result: what was there before is gone. -/
theorem stored_eq (lo hi : FVec F S256x2048 .f32) (f : (cc0_stg3_0 : Ref sig .tc).ty.Contents (Elt F)) : stored lo hi f = joined lo hi := by
  funext i
  unfold stored joined
  by_cases h : (i 1).val < 2048
  · rw [if_pos h, View.write_of_not_mem]
    · have e := View.write_emb_of_mem (Val := Elt F) (v := oM.access loR) f lo (Finset.mem_univ (half i))
      rw [show (oM.access loR).emb (half i) = i from lo_half i h] at e
      exact e
    · intro hm
      obtain ⟨x, -, hx⟩ := Finset.mem_map.mp hm
      have h1 : 2048 + 1 * (x 1).val = (i 1).val := congrArg (fun j : S256x4096.Idx => (j 1).val) hx
      omega
  · rw [if_neg h]
    have e := View.write_emb_of_mem (Val := Elt F) (v := oM.access hiR) ((oM.access loR).write (Elt F) f lo Finset.univ) hi (Finset.mem_univ (half i))
    rw [show (oM.access hiR).emb (half i) = i from hi_half i h] at e
    exact e

/-! ## The staged blocks are the whole arrays -/

variable (m : (ℓ : Loc nD τ sig) → Buf (Elt F) ℓ)

/-- What the launch memory gives each device. -/
def ins : Ins F where
  x c := m ((c : Thread nD τ).loc main_arg0)
  w c := m ((c : Thread nD τ).loc main_arg1)

/-- Device `c`'s table. -/
def table (c : Dev nD) : (cc0_stg2_0 : Ref sig .tc).ty.Contents (Elt F) := V5 m c main_v35

theorem table_ok (c : Dev nD) : TabOk c (table m c) := fun a j => by
  refine Eq.trans ?_ (table_word m c a j (Fin.ofNat 32 j) rfl)
  refine congrArg (V5 m c main_v35 : S2x32.Idx → BitVec 32) (funext fun b => Fin.ext ?_)
  match b with
  | ⟨0, _⟩ => exact Nat.add_zero _
  | ⟨1, _⟩ => exact Nat.add_zero _

theorem V5_arg0 (c : Dev nD) : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide)).trans rfl
theorem V5_arg1 (c : Dev nD) : V5 m c main_arg1 = m ((c : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide)).trans rfl

theorem blk_x (t : Fin cfg0.N) (f : (main_arg0 : Ref sig .tc).ty.Contents (Elt F)) : (win0_0.blk t).view.read (Elt F) f = f :=
  funext fun i => congrArg f (funext fun a => Fin.ext (Window.rect_emb_val_of_index_zero win0_0 t a rfl i))
theorem blk_w (t : Fin cfg0.N) (f : (main_arg1 : Ref sig .tc).ty.Contents (Elt F)) : (win0_1.blk t).view.read (Elt F) f = f :=
  funext fun i => congrArg f (funext fun a => Fin.ext (Window.rect_emb_val_of_index_zero win0_1 t a rfl i))
theorem blk_t (t : Fin cfg0.N) (f : (main_v35 : Ref sig .tc).ty.Contents (Elt F)) : (win0_2.blk t).view.read (Elt F) f = f :=
  funext fun i => congrArg f (funext fun a => Fin.ext (Window.rect_emb_val_of_index_zero win0_2 t a rfl i))
theorem blk_o (t : Fin cfg0.N) (f : (main_v36 : Ref sig .tc).ty.Contents (Elt F)) : (win0_3.blk t).view.read (Elt F) f = f :=
  funext fun i => congrArg f (funext fun a => Fin.ext (Window.rect_emb_val_of_index_zero win0_3 t a rfl i))

/-! ## The pipeline's data -/

/-- Device `c`'s result. -/
def result (c : Dev nD) : (cc0_stg3_0 : Ref sig .tc).ty.Contents (Elt F) := joined (outLo (ins m) c) (outHi (ins m) c)

/-- The scratch buffers, at contents not chosen. -/
def slots (c : Dev nD) : sProp 𝕄 :=
  iprop((∃ g, pt c cc0_scratch0 g) ∗ both sfM c ∗ both rfM c ∗ both sbM c ∗ both rbM c)

def atStart (c : Dev nD) : sProp 𝕄 := iprop(recs (ins m) ∗ levAts lvls lev ∗ hand c ∗ slots c ∗ ∃ r, prngReg c r)
def atEnd (c : Dev nD) : sProp 𝕄 :=
  iprop(semVal (barC c) 0 ∗ (bigSep (Finset.univ : Finset (Fin 10)) fun k => semVal (cell c (osem k)) 0) ∗ slots c ∗ ∃ r, prngReg c r)

def dat (c : Dev nD) : Dat τ (Elt F) ℕ ℕ UU ℕ cfg0 c where
  A w := V5 m c (Proc.devRef .tc (arrRef spec0 w))
  after w _ := match w with
    | ⟨0, _⟩ => (ins m).x c
    | ⟨1, _⟩ => (ins m).w c
    | ⟨2, _⟩ => table m c
    | ⟨3, _⟩ => result m c
  Φ t := if t.val = 0 then atStart m c else atEnd c
  q _ := fullShare
  owed t := if t.val = 0 then O₀ c else 0

def pdats : (p : Fin 1) → (c : Dev nD) → Dat τ (Elt F) ℕ ℕ UU ℕ (cfgs p) c := fun | 0 => dat m

theorem Φ_first (c : Dev nD) : (dat m c).Φ t0_0.castSucc = atStart m c := by
  show (if (t0_0.castSucc : Fin (cfg0.N + 1)).val = 0 then atStart m c else atEnd c) = _; exact if_pos rfl
theorem Φ_then (c : Dev nD) : (dat m c).Φ t0_0.succ = atEnd c := by
  show (if (t0_0.succ : Fin (cfg0.N + 1)).val = 0 then atStart m c else atEnd c) = _; exact if_neg (Nat.succ_ne_zero _)
theorem Φ_last (c : Dev nD) : (dat m c).Φ (Fin.last cfg0.N) = atEnd c := by
  show (if (Fin.last cfg0.N).val = 0 then atStart m c else atEnd c) = _
  rw [Fin.val_last, if_neg (by rw [show cfg0.N = 1 from N_0]; decide)]
theorem owed_first (c : Dev nD) : (dat m c).owed t0_0.castSucc = O₀ c := by
  show (if (t0_0.castSucc : Fin (cfg0.N + 1)).val = 0 then O₀ c else 0) = _; exact if_pos rfl
theorem owed_then (c : Dev nD) : (dat m c).owed t0_0.succ = 0 := by
  show (if (t0_0.succ : Fin (cfg0.N + 1)).val = 0 then O₀ c else 0) = _; exact if_neg (Nat.succ_ne_zero _)
theorem owed_last (c : Dev nD) : (dat m c).owed (Fin.last cfg0.N) = 0 := by
  show (if (Fin.last cfg0.N).val = 0 then O₀ c else 0) = _
  rw [Fin.val_last, if_neg (by rw [show cfg0.N = 1 from N_0]; decide)]

theorem before_x (c : Dev nD) (d) : (dat m c).before (0 : Fin 4) t0_0 d = (ins m).x c := by
  unfold Dat.before; rw [if_pos (fetch0_0 t0_0)]
  exact (blk_x (F := F) t0_0 _).trans (V5_arg0 m c)
theorem before_w (c : Dev nD) (d) : (dat m c).before (1 : Fin 4) t0_0 d = (ins m).w c := by
  unfold Dat.before; rw [if_pos (fetch0_1 t0_0)]
  exact (blk_w (F := F) t0_0 _).trans (V5_arg1 m c)
theorem before_t (c : Dev nD) (d) : (dat m c).before (2 : Fin 4) t0_0 d = table m c := by
  unfold Dat.before; rw [if_pos (fetch0_2 t0_0)]
  show (win0_2.blk t0_0).view.read (Elt F) (V5 m c main_v35) = table m c
  exact blk_t (F := F) t0_0 _

theorem both_whole (b : Ref sig .tc) (hb : (Memref.whole b).view.set = Finset.univ) (c : Dev nD) (f : b.ty.Contents (Elt F)) :
    (((Memref.whole b).view.loc (c : Thread nD τ) ↦[(Memref.whole b).view.set]{fullShare} f) : sProp 𝕄) = pt c b f := by rw [hb]

theorem owes_in (c : Dev nD) (t : Fin (cfg0.N + 1)) (O : CellTallies nD τ sig ℕ) (h : (dat m c).owed t = O) (W : Waits sig ℕ) :
    (owes (c : Thread nD τ) O W : sProp 𝕄) ⊢ (dat m c).owesAt 0 t := by
  unfold Dat.owesAt Pipeline.owesWithin Dat.bound
  rw [h]
  iintro HO
  iexists W
  isplitr; · ipureintro; exact fun _ _ => Or.inl trivial
  iexact HO

theorem owes_out (c : Dev nD) (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin
  rw [h]
  iintro ⟨%W, -, HO⟩
  iexists W
  iexact HO

theorem owns_pt (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

/-- The body's windows before and after. -/
def winsIn (c : Dev nD) : sProp 𝕄 :=
  iprop((∃ d, owns (c : Thread nD τ) xM fullShare ((dat m c).before (0 : Fin 4) t0_0 d))
    ∗ (∃ d, owns (c : Thread nD τ) wM fullShare ((dat m c).before (1 : Fin 4) t0_0 d))
    ∗ (∃ d, owns (c : Thread nD τ) tM fullShare ((dat m c).before (2 : Fin 4) t0_0 d))
    ∗ (∃ d, owns (c : Thread nD τ) oM fullShare ((dat m c).before (3 : Fin 4) t0_0 d)))
def winsOut (c : Dev nD) : sProp 𝕄 :=
  iprop(owns (c : Thread nD τ) xM fullShare ((ins m).x c) ∗ owns (c : Thread nD τ) wM fullShare ((ins m).w c)
    ∗ owns (c : Thread nD τ) tM fullShare (table m c) ∗ owns (c : Thread nD τ) oM fullShare (result m c))

theorem wins_in (c : Dev nD) : winsIn m c ⊢ (iprop(pt c cc0_stg0_0 ((ins m).x c) ∗ pt c cc0_stg1_0 ((ins m).w c) ∗ pt c cc0_stg2_0 (table m c)
    ∗ ∃ f, pt c cc0_stg3_0 f) : sProp 𝕄) := by
  unfold winsIn
  simp only [before_x, before_w, before_t, owns_pt]
  iintro ⟨⟨%_, %_, %h0, H0⟩, ⟨%_, %_, %h1, H1⟩, ⟨%_, %_, %h2, H2⟩, ⟨%_, %f, %_, H3⟩⟩
  subst h0; subst h1; subst h2
  isplitl [H0]; · iexact H0
  isplitl [H1]; · iexact H1
  isplitl [H2]; · iexact H2
  iexists f; iexact H3

theorem wins_out (c : Dev nD) : (iprop(pt c cc0_stg0_0 ((ins m).x c) ∗ pt c cc0_stg1_0 ((ins m).w c) ∗ pt c cc0_stg2_0 (table m c)
    ∗ pt c cc0_stg3_0 (result m c)) : sProp 𝕄) ⊢ winsOut m c := by
  unfold winsOut
  simp only [owns_pt]
  iintro ⟨H0, H1, H2, H3⟩
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

theorem obliged (c : Dev nD) :
    iprop(atStart m c ∗ (dat m c).owesAt 0 t0_0.castSucc ∗ winsIn m c)
      ⊢ (runs c prog fun _ => iprop(atEnd c ∗ (dat m c).owesAt 0 t0_0.succ ∗ winsOut m c) : sProp 𝕄) := by
  unfold atStart slots
  iintro ⟨⟨#HI, #Hlev, Hh, ⟨Hwb, Hsf, Hrf, Hsb, Hrb⟩, Hreg⟩, HO, HW⟩
  ihave HO := (owes_out m c _ (O₀ c) (owed_first m c)) $$ HO
  icases HO with ⟨%W, HO⟩
  ihave HW := (wins_in m c) $$ HW
  icases HW with ⟨Hx, Hw, Ht, ⟨%f, Ho⟩⟩
  iapply (prog_wp (ins m) c (table m c) (table_ok m c) f W)
  isplitr; · iexact HI
  isplitr; · iexact Hlev
  isplitl [HO]; · iexact HO
  isplitl [Hh]; · iexact Hh
  unfold bufs
  isplitl [Hx Hw Ht Ho Hwb Hsf Hrf Hsb Hrb]
  · isplitl [Ht]; · iexact Ht
    isplitl [Hx]; · iexact Hx
    isplitl [Hw]; · iexact Hw
    isplitl [Ho]; · iexact Ho
    isplitl [Hwb]; · iexact Hwb
    isplitl [Hsf]; · iexact Hsf
    isplitl [Hrf]; · iexact Hrf
    isplitl [Hsb]; · iexact Hsb
    iexact Hrb
  rw [stored_eq]
  iintro ⟨⟨Ht, Hx, Hw, Ho, Hwb, Hsf, Hrf, Hsb, Hrb⟩, Hz, Hb, ⟨%W', HO⟩⟩
  unfold atEnd slots
  isplitl [Hb Hz Hwb Hsf Hrf Hsb Hrb Hreg]
  · isplitl [Hb]; · iexact Hb
    isplitl [Hz]; · iexact Hz
    isplitr [Hreg]
    · isplitl [Hwb]; · iexact Hwb
      isplitl [Hsf]; · iexact Hsf
      isplitl [Hrf]; · iexact Hrf
      isplitl [Hsb]; · iexact Hsb
      iexact Hrb
    iexact Hreg
  isplitl [HO]; · iapply (owes_in m c _ 0 (owed_then m c) W'); iexact HO
  iapply (wins_out m c)
  isplitl [Hx]; · iexact Hx
  isplitl [Hw]; · iexact Hw
  isplitl [Ht]; · iexact Ht
  iexact Ho

theorem at_defs : (defs₀ (F := F)) .tc cfg0.body (cfg0.bodyArgs t0_0 (cfg0.slots t0_0)) = bodyAt0 (F := F) t0_0 := rfl

theorem at_point : (defs₀ (F := F)) .tc cfg0.body (cfg0.bodyArgs t0_0 (cfg0.slots t0_0)) = prog := by
  rw [at_defs]
  exact body_eq

theorem idle_none (w : Fin 4) (i) : cfg0.idle w i = false := rfl
theorem after_0 (c : Dev nD) : (dat m c).after (0 : Fin 4) t0_0 = (ins m).x c := rfl
theorem after_1 (c : Dev nD) : (dat m c).after (1 : Fin 4) t0_0 = (ins m).w c := rfl
theorem after_2 (c : Dev nD) : (dat m c).after (2 : Fin 4) t0_0 = table m c := rfl
theorem after_3 (c : Dev nD) : (dat m c).after (3 : Fin 4) t0_0 = result m c := rfl

set_option maxRecDepth 20000 in
theorem body_obligation (c : Dev nD) : BodyObligation (dat m c) (defs₀ (F := F)) 𝒱₀ 0 Set.univ := fun t => by
  rw [fin_N0 t]
  rw [bigSep_W0, bigSep_W0, Φ_first, Φ_then]
  refine BI.Entails.trans (sep_mono .rfl (sep_mono .rfl (Q' := winsIn m c) ?_)) ?_
  · exact .rfl
  refine (obliged m c).trans ?_
  rw [show (defs₀ (F := F)) .tc cfg0.body (cfg0.bodyArgs t0_0 (cfg0.slots t0_0)) = prog from at_point]
  simp only [idle_none, after_0, after_1, after_2, after_3]
  unfold winsOut
  rw [show stage0_0 0 = xM from rfl, show stage0_1 0 = wM from rfl, show stage0_2 0 = tM from rfl, show stage0_3 0 = oM from rfl]

end Cert.Ring
-- ==== Proof.Record.lean ====
module

public import proofs.«01_k».proof.Proof.Region

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

variable (m : (ℓ : Loc nD τ sig) → Buf (Elt F) ℓ)

/-! ## The region's record -/

/-- What the launch deals to device `c` beside the rights to its scoped semaphores. -/
def dealtTo (c : Dev nD) : sProp 𝕄 :=
  iprop((dutyTok ER (barC (L c)) 0 0 ∗ reached ER (barC (L c)) 0) ∗ (dutyTok ER (barC (R c)) 0 1 ∗ reached ER (barC (R c)) 0)
    ∗ cred (tallyAt (barC c) 0 2) ∗ atPos ER (barC c) 0 ∅ 0 ∗ bigSep (Finset.range 31) (fun i => dealt c (30 - i)))

/-- The rights to open device `c`'s scoped semaphores. -/
def rights (c : Dev nD) : sProp 𝕄 := bigSep (Finset.univ : Finset (Fin 10)) fun k => openTok ER (cell c (osem k))

/-- What device `c` carries from the launch to the kernel; -/
def carried (c : Dev nD) : sProp 𝕄 := iprop(recs (ins m) ∗ rights c ∗ dealtTo c)
/-- with the semaphores opened. -/
def ready (c : Dev nD) : sProp 𝕄 := iprop(recs (ins m) ∗ levAts lvls lev ∗ hand c)

theorem open_one (A : Ins F) (c : Dev nD) (k : Fin 10) :
    iprop(recs A ∗ openTok ER (cell c (osem k)) ∗ semVal (cell c (osem k)) 0)
      ⊢ (|={Set.univ}=> iprop(atPos ER (cell c (osem k)) 0 ∅ 0 ∗ reached ER (cell c (osem k)) 0) : sProp 𝕄) := by
  iintro ⟨#HI, Ho, Hz⟩
  ihave H := (rec_at A c k.castSucc) $$ HI
  icases H with ⟨%κ, #H⟩
  iapply (Rounds.cell_open ER (Rd A) (Set.mem_univ κ))
  isplitr; · iexact H
  isplitl [Ho] <;> iassumption

theorem open_all (c : Dev nD) : iprop(carried m c ∗ Pipeline.ownSems0 osem c ∗ levAts lvls lev) ⊢ (|={Set.univ}=> ready m c : sProp 𝕄) := by
  unfold carried ready hand rights opened Pipeline.ownSems0 dealtTo
  iintro ⟨⟨#HI, Ho, Hd⟩, Hz, #Hlev⟩
  ihave H := (Entails.of_eq (bigSep_sep' (Finset.univ : Finset (Fin 10)) (fun k => openTok ER (cell c (osem k))) (fun k => semVal (cell c (osem k)) 0)).symm) $$ [Ho Hz]
  · isplitl [Ho] <;> iassumption
  ihave H := (bigSep_along (X := recs (ins m)) (S := (Finset.univ : Finset (Fin 10)))
    (Φ := fun k => iprop(openTok ER (cell c (osem k)) ∗ semVal (cell c (osem k)) 0))
    (Ψ := fun k => iprop(|={Set.univ}=> (atPos ER (cell c (osem k)) 0 ∅ 0 ∗ reached ER (cell c (osem k)) 0))) (fun k => open_one (ins m) c k)) $$ [H]
  · isplitr; · iexact HI
    iexact H
  imod (BI.bigSep_fupd Finset.univ _) $$ H with H
  imodintro
  isplitr; · iexact HI
  isplitr; · iexact Hlev
  isplitl [H]; · iexact H
  iexact Hd

theorem both_all (b : Ref sig .tc) (M : Memref sig .tc .vmem S2x256x2048 .bf16) (c : Dev nD)
    (f : Buf (Elt F) (M.view.loc (c : Thread nD τ))) (h : M.view.set = Finset.univ) :
    ((M.view.loc (c : Thread nD τ) ↦[M.view.set]{fullShare} f) : sProp 𝕄) = (M.view.loc (c : Thread nD τ) ↦{fullShare} f) := by rw [h]

theorem slots_eq (c : Dev nD) : (Pipeline.scopedRest (Ix := ℕ) (Name := ℕ) (U := UU) (Lvl := ℕ) (Val := Elt F) spec0 c : sProp 𝕄) = slots c := by
  rw [scopedRest0_eq]
  unfold slots both
  simp only [Memref.view_whole, View.set_whole]

/-- The result array after the run; every other array as the kernel finds it. -/
def outs : Outs (F := F) := fun _ r c => if h : r = main_v36 then h ▸ result m c else V5 m c (Proc.devRef .tc r)

theorem V6_out (c : Dev nD) : V6 m (outs m) c main_v36 = result m c := by
  simp only [V6, Function.update_self]
  exact dif_pos rfl

theorem arr_in (c : Dev nD) (w : Fin 4) (h : (cfg0.win w).isOut = false) (n : ℕ) : (dat m c).arrAt w n = V5 m c (Proc.devRef .tc (arrRef spec0 w)) :=
  (dat m c).arrAt_in w h n

theorem arr_out (c : Dev nD) : (dat m c).arrAt (3 : Fin 4) cfg0.N = result m c :=
  (dat m c).arrAt_eq_of_cover (3 : Fin 4) (result m c) (fun t _ => by
    rw [fin_N0 t]
    exact (blk_o (F := F) t0_0 (result m c)).symm) fun i => ⟨t0_0, flush0_3 t0_0, by
    refine Finset.mem_map.mpr ⟨i, Finset.mem_univ _, funext fun a => Fin.ext ?_⟩
    exact Window.rect_emb_val_of_index_zero win0_3 t0_0 a rfl i⟩

theorem ends_at (c : Dev nD) (w : Fin 4) : (dat m c).arrAt w cfg0.N = V6 m (outs m) c (Proc.devRef .tc (arrRef spec0 w)) := by
  match w with
  | ⟨0, _⟩ => exact (arr_in m c 0 rfl _).trans (V6_of m (outs m) c main_arg0 (by decide)).symm
  | ⟨1, _⟩ => exact (arr_in m c 1 rfl _).trans (V6_of m (outs m) c main_arg1 (by decide)).symm
  | ⟨2, _⟩ => exact (arr_in m c 2 rfl _).trans (V6_of m (outs m) c main_v35 (by decide)).symm
  | ⟨3, _⟩ => exact (arr_out m c).trans (V6_out m c).symm

theorem above_O₀ (c : Dev nD) : Above (O₀ c) 1 :=
  (((above_owe c 31 (le_refl _)).mono (by decide)).add (Above.tally (by decide) (by decide))).add (Above.tally (by decide) (by decide))

theorem stage_lev : ∀ (w : Fin 4) (s : Fin (spec0 w).nbuf), levK (kd (.dma ((win0 w).sem s))) 0 = 0
  | 0, _ => rfl | 1, _ => rfl | 2, _ => rfl | 3, _ => rfl

theorem cut (c : Dev nD) (t : Fin (cfg0.N + 1)) (g : GSem nD τ sig) (i : ℕ) (h : 0 < (dat m c).owed t g i) : i ∈ lvls g ∧ 0 < lev g i := by
  have e : (dat m c).owed t = if t.val = 0 then O₀ c else 0 := rfl
  rw [e] at h
  split at h
  · obtain ⟨h1, h2, h3⟩ := above_O₀ c g i h
    exact ⟨by unfold lvls; rw [if_pos h1]; exact Finset.mem_range.mpr h2, h3⟩
  · exact absurd h (Nat.lt_irrefl 0)

/-- The buffers beside the four arrays. -/
abbrev others : Finset (DevRef τ sig) := Pipeline.ucRefs τ sig \ Pipeline.arrRefs (τ := τ) spec0

theorem owed_start (c : Dev nD) : (dat m c).owed 0 = O₀ c := by
  show (if (0 : Fin (cfg0.N + 1)).val = 0 then O₀ c else 0) = _; exact if_pos rfl
theorem Φ_start (c : Dev nD) : (dat m c).Φ 0 = atStart m c := by
  show (if (0 : Fin (cfg0.N + 1)).val = 0 then atStart m c else atEnd c) = _; exact if_pos rfl
theorem share_full (c : Dev nD) (w : Fin cfg0.W) : (dat m c).share w = fullShare := by unfold Dat.share; split <;> rfl

theorem out_mem : (Proc.devRef .tc main_v36 : DevRef τ sig) ∈ Pipeline.arrRefs (τ := τ) spec0 := by decide

theorem others_kept (c : Dev nD) (b : DevRef τ sig) (hb : b ∈ others \ (∅ : Finset (DevRef τ sig))) : V6 m (outs m) c b = V5 m c b := by
  refine Function.update_of_ne (fun h => ?_) _ _
  subst h
  exact (Finset.mem_sdiff.mp (Finset.mem_sdiff.mp hb).1).2 out_mem

theorem held_none (c : Dev nD) (W : Valuation τ sig (Elt F)) : (StableHlo.held (c : Thread nD τ) ∅ W : sProp 𝕄) = BI.emp := by
  unfold StableHlo.held; exact BI.bigSep_empty

theorem region_in (c : Dev nD) : iprop(Pipeline.scopedRest spec0 c ∗ (∃ r, prngReg c r) ∗ StableHlo.held (c.tc : Thread nD τ) ∅ (V5 m c) ∗ ready m c)
    ⊢ ((dat m c).Φ 0 : sProp 𝕄) := by
  rw [Φ_start, slots_eq]
  unfold atStart ready
  iintro ⟨Hs, Hp, -, #HI, #Hlev, Hh⟩
  isplitr; · iexact HI
  isplitr; · iexact Hlev
  isplitl [Hh]; · iexact Hh
  isplitl [Hs] <;> iassumption

theorem region_out (c : Dev nD) : ((dat m c).Φ (Fin.last cfg0.N) : sProp 𝕄)
    ⊢ iprop(Pipeline.scopedRest spec0 c ∗ (∃ r, prngReg c r) ∗ StableHlo.held (c.tc : Thread nD τ) ∅ (V6 m (outs m) c) ∗ Pipeline.ownSems0 osem c ∗ semVal (barC c) 0) := by
  rw [Φ_last, slots_eq, held_none]
  unfold atEnd Pipeline.ownSems0
  iintro ⟨Hb, Hz, Hs, Hp⟩
  isplitl [Hs]; · iexact Hs
  isplitl [Hp]; · iexact Hp
  isplitr; · iempintro
  isplitl [Hz] <;> iassumption

set_option backward.isDefEq.respectTransparency.types false in
def region : RegionSeg (pcfgs (F := F)) adm (pdats m) 0 defs₀ 𝒱₀ lvls lev 0 :=
  Pipeline.RegionSeg.ofTalk (pcfgs (F := F)) adm (pdats m) 0 defs₀ 𝒱₀ lvls lev 0 osem (by decide : Pipeline.OwnSemFacts spec0 osem)
    ∅ others (Finset.empty_subset _) launch0.toP rfl (fun c => (body_obligation m c).loose)
    (fun _ => 0) O₀ (fun c => (owed_start m c).trans (zero_add _).symm) (owed_last m) (fun _ => rfl) (fun c w => share_full m c w)
    (V5 m) (V6 m (outs m)) (fun c b hb => others_kept m c b hb)
    (carried m) (fun c => semVal (barC c) 0) (ready m) (fun c => semVal (barC c) 0) (open_all m) (region_in m) (region_out m)
    (fun c => by iintro H; imodintro; iexact H)
    (fun _ => 0)
    ⟨fun c w s => by unfold lvls; rw [if_pos rfl]; exact Finset.mem_range.mpr (by decide), fun c w s => le_of_eq (stage_lev w s), fun c t g i h => cut m c t g i h⟩
    (fun _ => iprop(emp))
    (fun c w => rfl) (fun c w => ends_at m c w)

end Cert.Ring
-- ==== Proof.Credits.lean ====
module

public import proofs.«01_k».proof.Proof.Record

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

/-! ## The credits of the launch -/

/-- What the others owe device `c` for its step `s`: the permissions to write again, and both blocks. -/
def dueAt (c : Dev nD) (s : ℕ) : CellTallies nD τ sig ℕ :=
  (if 2 ≤ s then tallyAt (creditF c) (s - 2) 1 + tallyAt (creditB c) (s - 2) 1 else 0) + tallyAt (recvF c s) s N + tallyAt (recvB c s) s N

/-- What the others owe device `c`. -/
def due (c : Dev nD) : CellTallies nD τ sig ℕ := tallyAt (barC c) 0 2 + ∑ i ∈ Finset.range 31, dueAt c (30 - i)

theorem owe_sum (c : Dev nD) (n : ℕ) :
    owe c n = ∑ i ∈ Finset.range n, (oweC c (30 - i) + tallyAt (recvB (L c) (30 - i)) (30 - i) N + tallyAt (recvF (R c) (30 - i)) (30 - i) N) := by
  induction n with
  | zero => rfl
  | succ n ih => rw [Finset.sum_range_succ, ← ih, owe]; simp only [add_assoc]

theorem sum_R (T : Dev nD → CellTallies nD τ sig ℕ) : ∑ d, T (R d) = ∑ d, T d := Equiv.sum_comp turn T
theorem sum_L (T : Dev nD → CellTallies nD τ sig ℕ) : ∑ d, T (L d) = ∑ d, T d := Equiv.sum_comp turn.symm T

/-- The permissions to write, shifted by the two steps they wait. -/
theorem sum_shift (K : ℕ → CellTallies nD τ sig ℕ) :
    (∑ s ∈ Finset.range 31, if s ≤ 28 then K s else 0) = ∑ s ∈ Finset.range 31, if 2 ≤ s then K (s - 2) else 0 := by
  rw [Finset.sum_range_succ, Finset.sum_range_succ, Finset.sum_range_succ' _ 30, Finset.sum_range_succ' _ 29]
  simp only [show ¬ 30 ≤ 28 from by decide, show ¬ 29 ≤ 28 from by decide, show ¬ 2 ≤ 0 from by decide, show ¬ 2 ≤ 0 + 1 from by decide, if_false, add_zero]
  refine Finset.sum_congr rfl fun s hs => ?_
  rw [if_pos (by have := Finset.mem_range.mp hs; omega), if_pos (by omega)]
  rfl

theorem sum_flip (K : ℕ → CellTallies nD τ sig ℕ) : (∑ i ∈ Finset.range 31, K (30 - i)) = ∑ s ∈ Finset.range 31, K s :=
  Finset.sum_nbij' (fun i => 30 - i) (fun i => 30 - i) (fun i hi => by rw [Finset.mem_range] at *; omega) (fun i hi => by rw [Finset.mem_range] at *; omega)
    (fun i hi => by rw [Finset.mem_range] at hi; omega) (fun i hi => by rw [Finset.mem_range] at hi; omega) (fun _ _ => rfl)

theorem total : (∑ d, O₀ d) = ∑ c, due c := by
  have hC (s : ℕ) : ∑ d, oweC d s = if s ≤ 28 then ∑ c, (tallyAt (creditF c) s 1 + tallyAt (creditB c) s 1) else 0 := by
    unfold oweC
    by_cases h : s ≤ 28
    · simp only [if_pos h, Finset.sum_add_distrib]
      rw [sum_R fun c => tallyAt (creditB c) s 1, sum_L fun c => tallyAt (creditF c) s 1, add_comm]
    · simp only [if_neg h, Finset.sum_const_zero]
  have hG (s : ℕ) : (∑ c, if 2 ≤ s then tallyAt (creditF c) (s - 2) 1 + tallyAt (creditB c) (s - 2) 1 else (0 : CellTallies nD τ sig ℕ))
      = if 2 ≤ s then ∑ c, (tallyAt (creditF c) (s - 2) 1 + tallyAt (creditB c) (s - 2) 1) else 0 := by
    by_cases h : 2 ≤ s
    · simp only [if_pos h]
    · simp only [if_neg h, Finset.sum_const_zero]
  have hshift : (∑ i ∈ Finset.range 31, ∑ d, oweC d (30 - i))
      = ∑ i ∈ Finset.range 31, ∑ c, if 2 ≤ 30 - i then tallyAt (creditF c) (30 - i - 2) 1 + tallyAt (creditB c) (30 - i - 2) 1 else (0 : CellTallies nD τ sig ℕ) := by
    simp only [hC, hG]
    exact ((sum_flip (fun s => if s ≤ 28 then ∑ c, (tallyAt (creditF c) s 1 + tallyAt (creditB c) s 1) else 0)).trans
      (sum_shift fun s => ∑ c, (tallyAt (creditF c) s 1 + tallyAt (creditB c) s 1))).trans
      (sum_flip (fun s => if 2 ≤ s then ∑ c, (tallyAt (creditF c) (s - 2) 1 + tallyAt (creditB c) (s - 2) 1) else 0)).symm
  unfold O₀ due dueAt
  simp only [owe_sum, Finset.sum_add_distrib]
  rw [sum_R fun c => tallyAt (barC c) 0 1, sum_L fun c => tallyAt (barC c) 0 1]
  rw [Finset.sum_comm (s := (Finset.univ : Finset (Dev nD))) (f := fun d i => oweC d (30 - i)), hshift,
    Finset.sum_comm (s := (Finset.univ : Finset (Dev nD))) (f := fun d i => tallyAt (recvB (L d) (30 - i)) (30 - i) N),
    Finset.sum_comm (s := (Finset.univ : Finset (Dev nD))) (f := fun d i => tallyAt (recvF (R d) (30 - i)) (30 - i) N)]
  simp only [fun s => sum_L fun c => tallyAt (recvB c s) s N, fun s => sum_R fun c => tallyAt (recvF c s) s N]
  rw [Finset.sum_comm (s := Finset.range 31) (t := (Finset.univ : Finset (Dev nD))), Finset.sum_comm (s := Finset.range 31) (t := (Finset.univ : Finset (Dev nD))),
    Finset.sum_comm (s := Finset.range 31) (t := (Finset.univ : Finset (Dev nD)))]
  have hb : (∑ c : Dev nD, tallyAt (barC c) 0 2) = (∑ c : Dev nD, tallyAt (barC c) 0 1) + (∑ c : Dev nD, tallyAt (barC c) 0 1 : CellTallies nD τ sig ℕ) := by
    rw [← Finset.sum_add_distrib]; exact Finset.sum_congr rfl fun c _ => (tallyAt_add _ _ 1 1).symm
  rw [hb]
  ac_rfl

/-- A tally with nothing off device `c`. -/
def Home (c : Dev nD) (T : CellTallies nD τ sig ℕ) : Prop := ∀ g : GSem nD τ sig, g.1 ≠ (c : Thread nD τ) → T g = 0

theorem Home.zero (c : Dev nD) : Home c 0 := fun _ _ => rfl
theorem Home.add {c : Dev nD} {T T' : CellTallies nD τ sig ℕ} (h : Home c T) (h' : Home c T') : Home c (T + T') := fun g hg => by
  rw [Pi.add_apply, h g hg, h' g hg, add_zero]
theorem Home.tally (c : Dev nD) (sm : SemLoc sig) (i k : ℕ) : Home c (tallyAt (cell c sm) i k) := fun g hg =>
  tallyAt_ne_cell (fun h => hg (congrArg Prod.fst h)) i k
theorem Home.sum {c : Dev nD} {T : ℕ → CellTallies nD τ sig ℕ} (s : Finset ℕ) (h : ∀ i, Home c (T i)) : Home c (∑ i ∈ s, T i) := fun g hg => by
  rw [Finset.sum_apply]; exact Finset.sum_eq_zero fun i _ => h i g hg

theorem home_due (c : Dev nD) : Home c (due c) := by
  refine (Home.tally c _ 0 2).add (Home.sum _ fun i => Home.add (Home.add ?_ (Home.tally c _ _ _)) (Home.tally c _ _ _))
  split
  · exact (Home.tally c _ _ _).add (Home.tally c _ _ _)
  · exact Home.zero c

theorem launch_at (c : Dev nD) (sm : SemLoc sig) : launchCredit (Pipeline.owing O₀) 0 (cell c sm) = due c (cell c sm) := by
  have h1 : launchCredit (Pipeline.owing O₀) 0 (cell c sm) = (∑ d, O₀ d) (cell c sm) := by
    rw [Finset.sum_apply]
    refine Finsupp.ext fun i => ?_
    rw [Finsupp.finset_sum_apply]
    exact Pipeline.launchCredit_owing O₀ (cell c sm) i
  rw [h1, total, Finset.sum_apply]
  refine Finset.sum_eq_single c (fun d _ hd => home_due d _ fun h => hd ?_) fun h => absurd (Finset.mem_univ c) h
  exact (congrArg (fun t : Thread nD τ => t.1) h).symm

theorem cred_sum {I : Type} [DecidableEq I] (s : Finset I) (T : I → CellTallies nD τ sig ℕ) : (cred (∑ i ∈ s, T i) : sProp 𝕄) = bigSep s fun i => cred (T i) := by
  induction s using Finset.induction_on with
  | empty => rw [Finset.sum_empty, cred_zero, BI.bigSep_empty]; rfl
  | insert a s ha ih => rw [Finset.sum_insert ha, BI.bigSep_insert ha, ← ih]; exact BI.Entails.antisymm (cred_add _ _).1 (cred_add _ _).2

theorem at_home {c : Dev nD} {T : CellTallies nD τ sig ℕ} (h : Home c T) : (∑ sm : SemLoc sig, tallyOn (cell c sm) (T (cell c sm))) = T := by
  funext g
  rw [Finset.sum_apply]
  by_cases hg : g.1 = (c : Thread nD τ)
  · obtain ⟨t, sm⟩ := g
    obtain rfl : t = (c : Thread nD τ) := hg
    rw [Finset.sum_eq_single sm (fun b _ hb => tallyOn_ne (fun e => hb (congrArg Prod.snd e).symm) _) fun h => absurd (Finset.mem_univ sm) h]
    exact tallyOn_self _ _
  · rw [h g hg]
    exact Finset.sum_eq_zero fun sm _ => tallyOn_ne (fun e => hg (congrArg Prod.fst e)) _

theorem launch_due (c : Dev nD) : (Pipeline.launchCred O₀ c : sProp 𝕄) = cred (due c) := by
  rw [← at_home (home_due c), cred_sum]
  unfold Pipeline.launchCred
  exact BI.bigSep_congr fun sm _ => by rw [← launch_at]

/-- What device `c` waits for, credit by credit. -/
def credAt (c : Dev nD) (s : ℕ) : sProp 𝕄 := iprop(gateToks c s ∗ cred (tallyAt (recvF c s) s N) ∗ cred (tallyAt (recvB c s) s N))

theorem cred_dueAt (c : Dev nD) (s : ℕ) : (cred (dueAt c s) : sProp 𝕄) ⊢ credAt c s := by
  unfold dueAt credAt gateToks
  by_cases h : 2 ≤ s
  · rw [if_pos h, if_pos h]
    iintro H
    ihave H := (cred_add _ _).1 $$ H
    icases H with ⟨H, HB⟩
    ihave H := (cred_add _ _).1 $$ H
    icases H with ⟨H, HF⟩
    ihave H := (cred_add _ _).1 $$ H
    isplitl [H]; · iexact H
    isplitl [HF] <;> iassumption
  · rw [if_neg h, if_neg h, zero_add]
    iintro H
    ihave H := (cred_add _ _).1 $$ H
    icases H with ⟨HF, HB⟩
    isplitr; · iempintro
    isplitl [HF] <;> iassumption

theorem credits (c : Dev nD) : (Pipeline.launchCred O₀ c : sProp 𝕄)
    ⊢ iprop(cred (tallyAt (barC c) 0 2) ∗ bigSep (Finset.range 31) fun i => credAt c (30 - i)) := by
  rw [launch_due]
  unfold due
  refine (cred_add _ _).1.trans (sep_mono_right ?_)
  rw [cred_sum]
  exact bigSep_mono fun i _ => cred_dueAt c (30 - i)

end Cert.Ring
-- ==== Proof.Tokens.lean ====
module

public import proofs.«01_k».proof.Proof.Credits

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

/-! ## The cells and the tokens of the launch -/

def barEmb : Dev nD ↪ GSem nD τ sig := ⟨barC, fun _ _ h => congrArg (fun g : GSem nD τ sig => g.1.1) h⟩

theorem osem_inj : Function.Injective osem := by decide
theorem osem_ne_bar : ∀ k, osem k ≠ .reg barS := by decide

def scEmb : Dev nD × Fin 10 ↪ GSem nD τ sig :=
  ⟨fun p => cell p.1 (osem p.2), fun _ _ h => Prod.ext (congrArg (fun g : GSem nD τ sig => g.1.1) h) (osem_inj (congrArg Prod.snd h))⟩

/-- The barrier cells, whose counters the launch holds; -/
def barCells : Finset (GSem nD τ sig) := Finset.univ.map barEmb
/-- and the cells of the kernel's own semaphores, opened at the region. -/
def scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

abbrev Tok : Type := GSem nD τ sig × ℕ × ℕ

/-- The device whose cell takes the barrier duty `k` of a device; -/
def barTo (k : Fin 2) : Dev nD ≃ Dev nD := if k = 0 then turn.symm else turn
/-- and the one whose cell takes its duty of kind `k` at a step. -/
def stepTo : Fin 6 → (Dev nD ≃ Dev nD)
  | 0 => Equiv.refl _ | 1 => turn | 2 => Equiv.refl _ | 3 => turn.symm | 4 => turn.symm | 5 => turn

/-- The semaphore, the round and the name of the duty of kind `k` at step `30 - i`. -/
def stepTok (i : Fin 31) : Fin 6 → SemLoc sig × ℕ × ℕ
  | 0 => (.dma (ssF (sl (30 - i.val))), (30 - i.val) / 2, 0) | 1 => (.dma (rsF (sl (30 - i.val))), (30 - i.val) / 2, 0)
  | 2 => (.dma (ssB (sl (30 - i.val))), (30 - i.val) / 2, 0) | 3 => (.dma (rsB (sl (30 - i.val))), (30 - i.val) / 2, 0)
  | 4 => (.reg crF, 0, 30 - i.val) | 5 => (.reg crB, 0, 30 - i.val)

theorem stepTok_inj : Function.Injective fun p : Fin 31 × Fin 6 => stepTok p.1 p.2 := by decide +kernel
theorem stepTok_ne_bar : ∀ i k, (stepTok i k).1 ≠ .reg barS := by decide +kernel

def barTokEmb : Dev nD × Fin 2 ↪ Tok :=
  ⟨fun p => (barC (barTo p.2 p.1), 0, p.2.val), fun p q h => by
    obtain ⟨c, k⟩ := p
    obtain ⟨d, j⟩ := q
    obtain rfl : k = j := Fin.ext (congrArg (fun t : Tok => t.2.2) h)
    exact Prod.ext ((barTo k).injective (congrArg (fun t : Tok => t.1.1.1) h)) rfl⟩

def stepTokEmb : Dev nD × Fin 31 × Fin 6 ↪ Tok :=
  ⟨fun p => (cell (stepTo p.2.2 p.1) (stepTok p.2.1 p.2.2).1, (stepTok p.2.1 p.2.2).2), fun p q h => by
    obtain ⟨c, k⟩ := p
    obtain ⟨d, j⟩ := q
    obtain rfl : k = j := stepTok_inj (Prod.ext (congrArg (fun t : Tok => t.1.2) h) (congrArg (fun t : Tok => t.2) h))
    exact Prod.ext ((stepTo k.2).injective (congrArg (fun t : Tok => t.1.1.1) h)) rfl⟩

/-- Every duty's token, listed by who pays it. -/
def toks : Finset Tok := Finset.univ.map barTokEmb ∪ Finset.univ.map stepTokEmb

theorem disjoint_toks : Disjoint (Finset.univ.map barTokEmb) (Finset.univ.map stepTokEmb) := by
  rw [Finset.disjoint_left]
  rintro t h₁ h₂
  obtain ⟨p, -, rfl⟩ := Finset.mem_map.mp h₁
  obtain ⟨q, -, h⟩ := Finset.mem_map.mp h₂
  exact stepTok_ne_bar q.2.1 q.2.2 (congrArg (fun t : Tok => t.1.2) h)

/-- The tokens device `c` pays with at step `s`. -/
def tokAt (c : Dev nD) (s : ℕ) : sProp 𝕄 :=
  iprop(dutyTok ER (sendFc c s) (s / 2) 0 ∗ dutyTok ER (recvF (R c) s) (s / 2) 0 ∗ dutyTok ER (sendBc c s) (s / 2) 0
    ∗ dutyTok ER (recvB (L c) s) (s / 2) 0 ∗ dutyTok ER (creditF (L c)) 0 s ∗ dutyTok ER (creditB (R c)) 0 s)

theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide), bigSep_insert (by decide),
    bigSep_insert (by decide), bigSep_insert (by decide), bigSep_singleton]
  rfl

theorem bigSep_steps (Φ : ℕ → sProp 𝕄) : (bigSep Finset.univ fun i : Fin 31 => Φ i.val) = bigSep (Finset.range 31) Φ := by
  rw [show Finset.range 31 = (Finset.univ : Finset (Fin 31)).map Fin.valEmbedding from by decide, BI.bigSep_map]
  rfl

theorem toks_eq : bigSep toks (fun x => (dutyTok ER x.1 x.2.1 x.2.2 : sProp 𝕄))
    = iprop((bigSep Finset.univ fun c : Dev nD => iprop(dutyTok ER (barC (L c)) 0 0 ∗ dutyTok ER (barC (R c)) 0 1))
      ∗ bigSep Finset.univ fun c : Dev nD => bigSep (Finset.range 31) fun i => tokAt c (30 - i)) := by
  unfold toks
  rw [BI.bigSep_union disjoint_toks, BI.bigSep_map, BI.bigSep_map, BI.bigSep_univ_prod, BI.bigSep_univ_prod]
  refine congrArg₂ _ (BI.bigSep_congr fun c _ => BI.bigSep_fin_two _) (BI.bigSep_congr fun c _ => ?_)
  rw [BI.bigSep_univ_prod, ← bigSep_steps]
  refine BI.bigSep_congr fun i _ => ?_
  rw [bigSep_six]
  rfl

/-- The tokens and the credits of a step make what the step takes from the launch. -/
theorem dealt_intro (c : Dev nD) (s : ℕ) : iprop(tokAt c s ∗ credAt c s) ⊢ (dealt c s : sProp 𝕄) := by
  unfold tokAt credAt dealt moveToks freeToks
  by_cases h : s ≤ 28
  · rw [if_pos h]
    iintro ⟨⟨H0, H1, H2, H3, H4, H5⟩, Hg, HF, HB⟩
    isplitl [Hg]; · iexact Hg
    isplitr [H4 H5]
    · isplitl [H0 H1 HF]
      · isplitl [H0]; · iexact H0
        isplitl [H1] <;> iassumption
      isplitl [H2]; · iexact H2
      isplitl [H3] <;> iassumption
    isplitl [H4] <;> iassumption
  · rw [if_neg h]
    iintro ⟨⟨H0, H1, H2, H3, -, -⟩, Hg, HF, HB⟩
    isplitl [Hg]; · iexact Hg
    isplitl
    · isplitl [H0 H1 HF]
      · isplitl [H0]; · iexact H0
        isplitl [H1] <;> iassumption
      isplitl [H2]; · iexact H2
      isplitl [H3] <;> iassumption
    iempintro

end Cert.Ring
-- ==== Proof.Launch.lean ====
module

public import proofs.«01_k».proof.Proof.Tokens

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

variable (m : (ℓ : Loc nD τ sig) → Buf (Elt F) ℓ) (ρ : Dev nD → PrngReg)

/-! ## The launch -/

/-- The ghost state of the launch: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's ghost state lies whole with device 0 until all devices' shares are dealt. -/
def G (c : Dev nD) : sProp 𝕄 := if c = 0 then BI.own (ER (launchOf barCells scCells toks)) else iprop(emp)

theorem G_whole : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem recs_intro (A : Ins F) (κ : GSem nD τ sig → ℕ) :
    (bigSep (barCells ∪ scCells) fun g => (cellInv ER (Rd A) (κ g) g : sProp 𝕄)) ⊢ recs A := by
  unfold recs
  refine bigSep_intro_persistent fun p _ => ?_
  have hg : cell p.1 (semOf p.2) ∈ barCells ∪ scCells := by
    obtain ⟨d, k⟩ := p
    refine Fin.lastCases ?_ (fun j => ?_) k
    · exact Finset.mem_union_left _ (Finset.mem_map_of_mem barEmb (Finset.mem_univ d))
    · exact Finset.mem_union_right _ (Finset.mem_map_of_mem scEmb (Finset.mem_univ (d, j)))
  iintro H
  iexists (κ (cell p.1 (semOf p.2)))
  iapply (show (bigSep (barCells ∪ scCells) fun g => (cellInv ER (Rd A) (κ g) g : sProp 𝕄)) ⊢ cellInv ER (Rd A) (κ (cell p.1 (semOf p.2))) (cell p.1 (semOf p.2)) from
    bigSep_elim (Φ := fun g => (cellInv ER (Rd A) (κ g) g : sProp 𝕄)) hg)
  iexact H

/-- What every device may consult. -/
def known : sProp 𝕄 := iprop(recs (ins m) ∗ bigSep barCells fun g => reached ER g 0)
instance known_persistent : BI.Persistent (known m : sProp 𝕄) := by unfold known; infer_instance

theorem reached_bar (c : Dev nD) : (bigSep barCells fun g => (reached ER g 0 : sProp 𝕄)) ⊢ reached ER (barC c) 0 :=
  bigSep_elim (Finset.mem_map_of_mem barEmb (Finset.mem_univ c))

/-- What the launch gives device `c` alone: of the protocol, -/
def lot (c : Dev nD) : sProp 𝕄 :=
  iprop(atPos ER (barC c) 0 ∅ 0 ∗ rights c ∗ (dutyTok ER (barC (L c)) 0 0 ∗ dutyTok ER (barC (R c)) 0 1) ∗ bigSep (Finset.range 31) fun i => tokAt c (30 - i))
/-- and of the machine. -/
def given (c : Dev nD) : sProp 𝕄 :=
  iprop(StableHlo.held (c : Thread nD τ) (Pipeline.ucRefs τ sig) (V0 m c) ∗ (cred (tallyAt (barC c) 0 2) ∗ bigSep (Finset.range 31) fun i => credAt c (30 - i))
    ∗ owes (c : Thread nD τ) (O₀ c) ∅ ∗ ∃ r, prngReg c r)

/-- What rides beside the arrays before and after the kernel. -/
def E (j : Fin 2) (c : Dev nD) : sProp 𝕄 :=
  if j = 0 then iprop(carried m c ∗ (∃ r, prngReg c r) ∗ ∃ W, owes (c : Thread nD τ) (O₀ c) W)
  else iprop(semVal (barC c) 0 ∗ ∃ W, owes (c : Thread nD τ) (0 : CellTallies nD τ sig ℕ) W)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V6 m (outs m) c) ∗ semVal (barC c) 0)

theorem start_intro (c : Dev nD) : iprop(known m ∗ lot c ∗ given m c) ⊢ (T₀ m c : sProp 𝕄) := by
  unfold known lot given T₀ E carried dealtTo
  rw [if_pos rfl]
  iintro ⟨⟨#HI, #HR⟩, ⟨Hat, Hr, ⟨H0, H1⟩, Ht⟩, Hh, ⟨Hc, Hs⟩, HO, Hp⟩
  isplitl [Hh]; · iexact Hh
  isplitr [Hp HO]
  · isplitr; · iexact HI
    isplitl [Hr]; · iexact Hr
    isplitl [H0]
    · isplitl [H0]; · iexact H0
      iapply (reached_bar (F := F) (L c)); iexact HR
    isplitl [H1]
    · isplitl [H1]; · iexact H1
      iapply (reached_bar (F := F) (R c)); iexact HR
    isplitl [Hc]; · iexact Hc
    isplitl [Hat]; · iexact Hat
    iapply (show iprop((bigSep (Finset.range 31) fun i => tokAt c (30 - i)) ∗ bigSep (Finset.range 31) fun i => credAt c (30 - i))
        ⊢ (bigSep (Finset.range 31) fun i => dealt c (30 - i) : sProp 𝕄) from
      (Entails.of_eq (bigSep_sep' _ _ _).symm).trans (bigSep_mono fun i _ => dealt_intro c (30 - i)))
    isplitl [Ht] <;> iassumption
  isplitl [Hp]; · iexact Hp
  iexists ∅; iexact HO

theorem sems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem given_intro (c : Dev nD) :
    iprop(unscopedBufs c (fun b => m ((c.tc : Thread nD τ).loc b)) ∗ unscopedSems0 c
        ∗ owes (c : Thread nD τ) (O₀ c) ∅ ∗ Pipeline.launchCred O₀ c ∗ prngReg c (ρ c) ∗ G c)
      ⊢ (iprop(given m c ∗ semVal (barC c) 0 ∗ G c) : sProp 𝕄) := by
  rw [sems_eq, show unscopedBufs c (fun b => m ((c.tc : Thread nD τ).loc b)) = StableHlo.held (c : Thread nD τ) (Pipeline.ucRefs τ sig) (V0 m c) from
    Pipeline.unscopedBufs_held (Ix := ℕ) (Name := ℕ) (U := UU) (Lvl := ℕ) c (V0 m c)]
  unfold given
  iintro ⟨Hh, Hz, HO, Hc, Hp, HG⟩
  ihave Hc := (credits (F := F) c) $$ Hc
  isplitr [Hz HG]
  · isplitl [Hh]; · iexact Hh
    isplitl [Hc]; · iexact Hc
    isplitl [HO]; · iexact HO
    iexists (ρ c); iexact Hp
  isplitl [Hz] <;> iassumption

theorem bars_eq (X : GSem nD τ sig → sProp 𝕄) : bigSep barCells X = bigSep Finset.univ (fun c : Dev nD => X (barC c)) :=
  BI.bigSep_map (s := Finset.univ) barEmb (Φ := X)

theorem rights_eq : bigSep scCells (fun g => (openTok ER g : sProp 𝕄)) = bigSep Finset.univ (fun c : Dev nD => (rights c : sProp 𝕄)) := by
  unfold scCells rights
  rw [BI.bigSep_map, BI.bigSep_univ_prod]
  rfl

/-- The protocol's share of every device, from the shares of every kind. -/
theorem lots : iprop((bigSep Finset.univ fun c : Dev nD => atPos ER (barC c) 0 ∅ 0) ∗ (bigSep Finset.univ fun c : Dev nD => rights c)
      ∗ (bigSep Finset.univ fun c : Dev nD => iprop(dutyTok ER (barC (L c)) 0 0 ∗ dutyTok ER (barC (R c)) 0 1))
      ∗ bigSep Finset.univ fun c : Dev nD => bigSep (Finset.range 31) fun i => tokAt c (30 - i))
    ⊢ (bigSep Finset.univ fun c : Dev nD => lot c : sProp 𝕄) := by
  unfold lot
  rw [bigSep_sep' _ (fun c : Dev nD => atPos ER (barC c) 0 ∅ 0), bigSep_sep' _ (fun c : Dev nD => rights c), bigSep_sep' _ (fun c : Dev nD => iprop(dutyTok ER (barC (L c)) 0 0 ∗ dutyTok ER (barC (R c)) 0 1))]

/-- The protocol's launch: the records of all devices, and every device its share. -/
theorem deal : iprop((bigSep Finset.univ fun c : Dev nD => semVal (barC c) 0) ∗ bigSep Finset.univ (G (F := F)))
    ⊢ (|={Set.univ}=> iprop(known m ∗ bigSep Finset.univ fun c : Dev nD => lot c) : sProp 𝕄) := by
  rw [G_whole, ← bars_eq fun g => semVal g 0]
  refine (Rounds.fund_launch ER (Rd (ins m)) disjoint_cells (fun g _ h => h) toks (Es := Set.univ)).trans ?_
  iintro H
  imod H with ⟨%κ, -, Hinv, #Hr, Hat, Hopen, Htok⟩
  ihave #HI := (recs_intro (ins m) κ) $$ Hinv
  ihave Hat := (Entails.of_eq (bars_eq fun g => atPos ER g 0 ∅ 0)) $$ Hat
  ihave Hopen := (Entails.of_eq (rights_eq (F := F))) $$ Hopen
  ihave Htok := (Entails.of_eq (toks_eq (F := F))) $$ Htok
  icases Htok with ⟨Hb, Ht⟩
  imodintro
  isplitr
  · unfold known
    isplitr; · iexact HI
    iexact Hr
  iapply (lots (F := F))
  isplitl [Hat]; · iexact Hat
  isplitl [Hopen]; · iexact Hopen
  isplitl [Hb] <;> iassumption

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts lvls lev)
      ⊢ (|={Set.univ}=> bigSep Finset.univ (T₀ m) : sProp 𝕄) := by
  have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop(bigSep Finset.univ (given m) ∗ (bigSep Finset.univ fun c : Dev nD => (semVal (barC c) 0 : sProp 𝕄)) ∗ bigSep Finset.univ G) : sProp 𝕄) :=
    (bigSep_mono (s := Finset.univ) fun c _ => given_intro m ρ c).trans
    ((Entails.of_eq (bigSep_sep' Finset.univ (given m) fun c => iprop(semVal (barC c) 0 ∗ G c))).trans
      (sep_mono_right (Entails.of_eq (bigSep_sep' Finset.univ (fun c : Dev nD => (semVal (barC c) 0 : sProp 𝕄)) G))))
  iintro ⟨H, -⟩
  ihave H := hsplit $$ H
  icases H with ⟨HB, HP⟩
  imod (deal m) $$ HP with ⟨#HK, HL⟩
  imodintro
  iapply (bigSep_with_persistent (R := known m) (Φ := fun c => iprop(lot c ∗ given m c)) fun c _ => start_intro m c)
  isplitr; · iexact HK
  iapply (Entails.of_eq (bigSep_sep' Finset.univ (fun c : Dev nD => lot c) (given m)).symm)
  isplitl [HL] <;> iassumption

/-! ## The run -/

theorem arrays_in : Pipeline.arrRefs (τ := τ) spec0 ⊆ Pipeline.ucRefs τ sig := by decide

theorem unscoped_eq : ∀ sm : SemLoc sig, sm.isScoped .tc = false → sm = .reg barS := by decide

theorem enter (c : Dev nD) : iprop(StableHlo.held (c : Thread nD τ) (Pipeline.ucRefs τ sig) (V5 m c) ∗ E m 0 c) ⊢ ((region m).pre c : sProp 𝕄) := by
  rw [StableHlo.held_sub_split (c : Thread nD τ) arrays_in]
  unfold E
  rw [if_pos rfl]
  show _ ⊢ iprop(StableHlo.held (c : Thread nD τ) (Pipeline.arrRefs (τ := τ) spec0) (V5 m c) ∗ (∃ r, prngReg c r) ∗ (StableHlo.held (c : Thread nD τ) others (V5 m c) ∗ emp)
    ∗ carried m c ∗ ∃ W, owes (c : Thread nD τ) (0 + O₀ c) W)
  rw [zero_add]
  iintro ⟨⟨Ha, Hs⟩, Hc, Hp, HO⟩
  isplitl [Ha]; · iexact Ha
  isplitl [Hp]; · iexact Hp
  isplitl [Hs]
  · isplitl; · iexact Hs
    iempintro
  isplitl [Hc] <;> iassumption

theorem leave (c : Dev nD) : ((region m).post c : sProp 𝕄)
    ⊢ iprop(Tₙ m c ∗ ∃ W, owes (c : Thread nD τ) (0 : CellTallies nD τ sig ℕ) W) := by
  unfold Tₙ
  rw [StableHlo.held_sub_split (c : Thread nD τ) arrays_in]
  show iprop(StableHlo.held (c : Thread nD τ) (Pipeline.arrRefs (τ := τ) spec0) (V6 m (outs m) c) ∗ (∃ r, prngReg c r) ∗ (StableHlo.held (c : Thread nD τ) others (V6 m (outs m) c) ∗ emp)
    ∗ semVal (barC c) 0 ∗ ∃ W, owes (c : Thread nD τ) (0 : CellTallies nD τ sig ℕ) W) ⊢ _
  iintro ⟨Ha, -, ⟨Hs, -⟩, Hb, HO⟩
  isplitr [HO]
  · isplitr [Hb]
    · isplitl [Ha] <;> iassumption
    iexact Hb
  iexact HO

theorem uc_mem (r : Ref sig .tc) (h : r = main_arg0 ∨ r = main_arg1 ∨ r = main_v36) : (Proc.devRef .tc r : DevRef τ sig) ∈ Pipeline.ucRefs τ sig := by
  rcases h with rfl | rfl | rfl <;> decide

set_option backward.isDefEq.respectTransparency.types false in
/-- The kernel's run on all devices: it ends, with both arguments as they were, the result array at `result`, and every semaphore at zero. -/
theorem run_main : θ_run defs (onTc (τ := τ) (main (F := F))) ⟨m, fun _ => 0, ρ⟩ (fun r =>
    (∀ c : Dev nD, r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ 𝒱₀ lvls lev m ρ main
    (segs m 𝒱₀ lvls lev (E m) 0 (pdats m) (region m))
    (fun c Q => by
      rewrite [main_chain c, Seg.run_eq_chain,
        show (segs m 𝒱₀ lvls lev (E m) 0 (pdats m) (region m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide) O₀ lvls_of_ne G (u₀ (F := F)) ?_
    (T₀ := T₀ m) (Tₙ := Tₙ m)
    (hch := fun c => ⟨.rfl, .rfl, .rfl, .rfl, .rfl, enter m c, leave m c⟩)
    (hinit := init m ρ)
    (QY := fun c s => (s.mem ((c.tc : Thread nD τ).loc main_v36) = result m c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barC c) = 0)
    (hfin := fun c s' => ?_)
    (hQ := fun s h hs => ⟨fun c => (h c).1, sem_eq_zero hs fun c sm hsm => by obtain rfl := unscoped_eq sm hsm; exact (h c).2⟩)
  · unfold u₀
    iintro Hu
    ihave H := (ownU_pair _ _) $$ Hu
    icases H with ⟨HP, HX⟩
    imodintro
    isplitl [HP]; · iexact HP
    rw [G_whole]; iexact HX
  · unfold Tₙ StableHlo.held
    iintro ⟨⟨Hh, Hb⟩, HSI⟩
    icombine HSI Hb gives %hb
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨⟨(h (Proc.devRef .tc main_v36) (uc_mem _ (.inr (.inr rfl)))).trans (V6_out m c),
        (h (Proc.devRef .tc main_arg0) (uc_mem _ (.inl rfl))).trans (V6_main_arg0 m (outs m) c),
        (h (Proc.devRef .tc main_arg1) (uc_mem _ (.inr (.inl rfl)))).trans (V6_main_arg1 m (outs m) c)⟩, by simpa using hb⟩
    · iexact HSI

end Cert.Ring
-- ==== Proof.Sum.lean ====
/-
  The kernel's result over the extended reals: what the messages hold as sums over the devices
  they have passed, and each result as the activation of a sum over all devices.
-/
module

public import proofs.«01_k».proof.Proof.Region
public import Idealize.ShloMosaic.Lib.MatmulPlain
public import Idealize.ShloMosaic.Lib.ValueIdx
public import Idealize.ShloMosaic.Lib.Pipeline.Value

@[expose] public section

noncomputable section

namespace Cert.Ring

open Cert.KernelIdeal Cert.KernelIdeal.Gen
open Idealize.ShloMosaic
open Idealize.ShloMosaic.TcCoe
open Idealize.ShloMosaic.ValueIdx

/-! ## The order of the devices around the ring -/

theorem ofNat_succ (s : ℕ) : Fin.ofNat 32 (s + 1) = Fin.ofNat 32 s + 1 := by
  refine Fin.ext ?_
  rw [Fin.val_add]
  show (s + 1) % 32 = (s % 32 + 1) % 32
  omega

theorem chunk_left (c : Dev nD) (s : ℕ) : chunk 0 (L c) s = chunk 0 c (s + 1) := by
  unfold chunk L
  rw [if_pos rfl, if_pos rfl, place_dev, ofNat_succ, sub_sub (place c - 1), add_comm 1]

theorem chunk_right (c : Dev nD) (s : ℕ) : chunk 1 (R c) s = chunk 1 c (s + 1) := by
  unfold chunk R
  rw [if_neg (by decide), if_neg (by decide), place_dev, ofNat_succ, add_assoc (place c + 1), add_comm 1]

theorem chunk_last (a : Fin 2) (c : Dev nD) : chunk a c 31 = c := by revert a c; decide

/-- `t` steps to the left, and to the right. -/
theorem L_steps (c : Dev nD) (t : ℕ) : L^[t] c = dev (place c - Fin.ofNat 32 t) := by
  induction t with
  | zero => rw [show place c - Fin.ofNat 32 0 = place c from sub_zero _, dev_place]; rfl
  | succ t ih => rw [Function.iterate_succ_apply', ih, ofNat_succ, ← sub_sub]; unfold L; rw [place_dev]

theorem R_steps (c : Dev nD) (t : ℕ) : R^[t] c = dev (place c + Fin.ofNat 32 t) := by
  induction t with
  | zero => rw [show place c + Fin.ofNat 32 0 = place c from add_zero _, dev_place]; rfl
  | succ t ih => rw [Function.iterate_succ_apply', ih, ofNat_succ, ← add_assoc]; unfold R; rw [place_dev]

/-- A sum over a whole round that reaches each device once is the sum over the devices. -/
theorem sum_round (f : Dev nD → EReal) (g : ℕ → Dev nD) (h : Fin 32 → Fin 32) (hg : ∀ t : Fin 32, g t.val = dev (h t))
    (hi : Function.Injective h) : ∑ t ∈ Finset.range 32, f (g t) = ∑ e, f e := by
  rw [Finset.sum_range]
  refine Fintype.sum_bijective (fun t : Fin 32 => g t.val) ?_ _ _ fun _ => rfl
  refine (Fintype.bijective_iff_injective_and_card _).2 ⟨fun t u e => hi ?_, by decide⟩
  have e' : g t.val = g u.val := e
  rw [hg, hg] at e'
  exact (place_dev _).symm.trans ((congrArg place e').trans (place_dev _))

theorem ofNat_val (t : Fin 32) : Fin.ofNat 32 t.val = t := Fin.ext (Nat.mod_eq_of_lt t.isLt)

theorem sum_left (f : Dev nD → EReal) (c : Dev nD) : ∑ t ∈ Finset.range 32, f (L^[t] c) = ∑ e, f e :=
  sum_round f _ (fun t => place c - t) (fun t => by rw [L_steps, ofNat_val]) fun _ _ e => sub_right_injective e

theorem sum_right (f : Dev nD → EReal) (c : Dev nD) : ∑ t ∈ Finset.range 32, f (R^[t] c) = ∑ e, f e :=
  sum_round f _ (fun t => place c + t) (fun t => by rw [R_steps, ofNat_val]) fun _ _ e => add_right_injective _ e

/-! ## The payloads over the extended reals -/

theorem dot_plain : dot_S256x256_S256x2048_S256x2048_1_0_0_1_n_n = DotDims.plain 256 256 2048 := rfl

theorem pay4_apply (X : Vec Ideal S256x256 .bf16) (W : Vec Ideal S256x2048 .bf16) (r : Fin 256) (l : Fin 2048) :
    k0_pay4 X W (ix2 r l) = ∑ k : Fin 256, (X (ix2 r k) * W (ix2 k l) : EReal) := by
  unfold k0_pay4
  simp only [matmul]
  rw [dot_plain, shapeCast_self]
  refine (Ideal.matmul_plain_apply _ _ _ _ r l).trans ?_
  show Ideal.ofBits .f32 0x00000000#32 + _ = _
  rw [Ideal.ofBits_zero_f32, zero_add]

/-- The first message is the product itself. -/
theorem pay2_down (X : Vec Ideal S256x256 .bf16) (W : Vec Ideal S256x2048 .bf16) (i : S256x2048.Idx) :
    (down (k0_pay2 X W) i : EReal) = k0_pay4 X W i := by
  unfold k0_pay2 down
  dsimp only
  rw [shapeCast_shapeCast]
  rfl

/-- A later message is the product plus what came in. -/
theorem pay8_down (p : FVec Ideal S256x2048 .f32) (v : FVec Ideal S256x2048 .bf16) (i : S256x2048.Idx) :
    (down (k0_pay8 p (up v)) i : EReal) = (p i + v i : EReal) := by
  unfold k0_pay8 down up
  dsimp only
  rw [shapeCast_shapeCast, shapeCast_shapeCast]
  rfl

/-- The activation as the kernel writes it. -/
def gel (y : EReal) : EReal :=
  (Ideal.ofBits .f32 0x3F000000#32 * y) * (Ideal.ofBits .f32 0x3F800000#32
    + Ideal.tanh (Ideal.ofBits .f32 0x3F4C422A#32 * (y + (Ideal.ofBits .f32 0x3D372713#32 * y) * y * y)))

theorem pay145_up (p : FVec Ideal S256x2048 .f32) (v : FVec Ideal S256x2048 .bf16) (i : S256x2048.Idx) :
    k0_pay145 p (up v) i = gel (p i + v i) := by
  unfold k0_pay145 up
  rw [shapeCast_shapeCast]
  rfl

/-! ## The sums -/

variable (A : Ins Ideal)

/-- What device `e` adds to row `r` and column `l` of device `d`'s result. -/
def share (d e : Dev nD) (r : Fin 256) (l : Fin 4096) : EReal :=
  ∑ k : Fin 256, (A.x e (ix2 ⟨256 * d.val + r.val, by have h : d.val < 32 := d.isLt; omega⟩ k) * A.w e (ix2 k l) : EReal)

def loCol (l : Fin 2048) : Fin 4096 := ⟨l.val, by omega⟩
def hiCol (l : Fin 2048) : Fin 4096 := ⟨2048 + l.val, by omega⟩

theorem xBlk_apply (e d : Dev nD) (r k : Fin 256) :
    xBlk A e d (ix2 r k) = A.x e (ix2 ⟨256 * d.val + r.val, by have h : d.val < 32 := d.isLt; omega⟩ k) := by
  refine congrArg (A.x e) (funext fun a => Fin.ext ?_)
  match a with
  | ⟨0, _⟩ => show k0_off1 (word d) 0 + 1 * r.val = 256 * d.val + r.val; rw [off1_word]; omega
  | ⟨1, _⟩ => show 0 + 1 * k.val = k.val; omega

theorem wLo_apply (e : Dev nD) (k : Fin 256) (l : Fin 2048) : wLo A e (ix2 k l) = A.w e (ix2 k (loCol l)) := by
  refine congrArg (A.w e) (funext fun a => Fin.ext ?_)
  match a with
  | ⟨0, _⟩ => show 0 + 1 * k.val = k.val; omega
  | ⟨1, _⟩ => show 0 + 1 * l.val = l.val; omega

theorem wHi_apply (e : Dev nD) (k : Fin 256) (l : Fin 2048) : wHi A e (ix2 k l) = A.w e (ix2 k (hiCol l)) := by
  refine congrArg (A.w e) (funext fun a => Fin.ext ?_)
  match a with
  | ⟨0, _⟩ => show 0 + 1 * k.val = k.val; omega
  | ⟨1, _⟩ => show 2048 + 1 * l.val = 2048 + l.val; omega

theorem lo_share (e d : Dev nD) (r : Fin 256) (l : Fin 2048) : k0_pay4 (xBlk A e d) (wLo A e) (ix2 r l) = share A d e r (loCol l) := by
  rw [pay4_apply]
  exact Finset.sum_congr rfl fun k _ => by rw [xBlk_apply, wLo_apply]

theorem hi_share (e d : Dev nD) (r : Fin 256) (l : Fin 2048) : k0_pay4 (xBlk A e d) (wHi A e) (ix2 r l) = share A d e r (hiCol l) := by
  rw [pay4_apply]
  exact Finset.sum_congr rfl fun k _ => by rw [xBlk_apply, wHi_apply]

/-- The message a device sends forward in step `s`: the shares of the `s + 1` devices up to it. -/
theorem msgF_sum (s : ℕ) (c : Dev nD) (r : Fin 256) (l : Fin 2048) :
    (msgF A c s (ix2 r l) : EReal) = ∑ t ∈ Finset.range (s + 1), share A (chunk 0 c s) (L^[t] c) r (loCol l) := by
  induction s generalizing c with
  | zero => rw [msgF, pay2_down, lo_share, Finset.sum_range_one]; rfl
  | succ s ih =>
    rw [msgF, pay8_down, ih, chunk_left, Finset.sum_range_succ' _ (s + 1), add_comm]
    exact congrArg _ (lo_share A c _ r l)

theorem msgB_sum (s : ℕ) (c : Dev nD) (r : Fin 256) (l : Fin 2048) :
    (msgB A c s (ix2 r l) : EReal) = ∑ t ∈ Finset.range (s + 1), share A (chunk 1 c s) (R^[t] c) r (hiCol l) := by
  induction s generalizing c with
  | zero => rw [msgB, pay2_down, hi_share, Finset.sum_range_one]; rfl
  | succ s ih =>
    rw [msgB, pay8_down, ih, chunk_right, Finset.sum_range_succ' _ (s + 1), add_comm]
    exact congrArg _ (hi_share A c _ r l)

theorem outLo_sum (c : Dev nD) (r : Fin 256) (l : Fin 2048) :
    outLo A c (ix2 r l) = gel (∑ e, share A c e r (loCol l)) := by
  unfold outLo
  rw [pay145_up, msgF_sum, chunk_left, chunk_last]
  refine congrArg gel ?_
  rw [← sum_left (fun e => share A c e r (loCol l)) c, Finset.sum_range_succ' _ 31, add_comm]
  unfold pLo
  rw [chunk_last]
  exact congrArg _ (lo_share A c c r l)

theorem outHi_sum (c : Dev nD) (r : Fin 256) (l : Fin 2048) :
    outHi A c (ix2 r l) = gel (∑ e, share A c e r (hiCol l)) := by
  unfold outHi
  rw [pay145_up, msgB_sum, chunk_right, chunk_last]
  refine congrArg gel ?_
  rw [← sum_right (fun e => share A c e r (hiCol l)) c, Finset.sum_range_succ' _ 31, add_comm]
  unfold pHi
  rw [chunk_last]
  exact congrArg _ (hi_share A c c r l)

/-- Device `c`'s result at row `r` and column `l`. -/
theorem joined_sum (c : Dev nD) (r : Fin 256) (l : Fin 4096) :
    joined (outLo A c) (outHi A c) (ix2 r l) = gel (∑ e, share A c e r l) := by
  have hh : half (ix2 r l) = ix2 r ⟨l.val % 2048, Nat.mod_lt _ (by decide)⟩ := by
    funext a
    match a with
    | ⟨0, _⟩ => rfl
    | ⟨1, _⟩ => rfl
  show (if l.val < 2048 then outLo A c (half (ix2 r l)) else outHi A c (half (ix2 r l))) = _
  rw [hh]
  by_cases h : l.val < 2048
  · rw [if_pos h, outLo_sum,
      show loCol ⟨l.val % 2048, _⟩ = l from Fin.ext (Nat.mod_eq_of_lt h)]
  · rw [if_neg h, outHi_sum,
      show hiCol ⟨l.val % 2048, _⟩ = l from Fin.ext (by show 2048 + l.val % 2048 = l.val; omega)]

end Cert.Ring

end
-- ==== Proof.Value.lean ====
/-
  The reference's result over the extended reals, and each device's result as its block of it.
-/
module

public import proofs.«01_k».proof.Proof.Sum
public import proofs.«01_k».proof.Proof.Gen.ReferenceIdeal
public import Idealize.ShloMosaic.Lib.IdealHost
public import Idealize.ShloMosaic.Lib.StackMember
public import Idealize.ShloMosaic.Lib.Layout

@[expose] public section

noncomputable section

namespace Cert.Ring

open Cert.ReferenceIdeal Cert.ReferenceIdeal.Gen
open Idealize.ShloMosaic
open Idealize.ShloMosaic.ValueIdx

/-- The reference's product. -/
def whole (X : Vec Ideal S8192x8192 .bf16) (W : Vec Ideal S8192x4096 .bf16) : FVec Ideal S8192x4096 .f32 :=
  Host.dotGeneral dot_S8192x8192_S8192x4096_S8192x4096_1_0_0_1_n_n none (extf .f32 X bitsLt_bf16_f32) (extf .f32 W bitsLt_bf16_f32)

/-- The reference's activation of it, as the reference writes it. -/
def act (Y : FVec Ideal S8192x4096 .f32) : FVec Ideal S8192x4096 .f32 :=
  mulf (mulf (broadcastInDim S8192x4096 ![] bcast_S_S8192x4096 (constant S_ .f32 0x3F000000#32)) Y)
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf Y (mulf (broadcastInDim S8192x4096 ![] bcast_S_S8192x4096 (constant S_ .f32 0x3D372713#32)) (mulf (mulf Y Y) Y))))))

theorem act_apply (Y : FVec Ideal S8192x4096 .f32) (i : S8192x4096.Idx) : act Y i = gel (Y i) := by
  have e : ∀ a y : EReal, a * y * y * y = a * (y * y * y) := fun a y => by rw [mul_assoc, mul_assoc, mul_assoc]
  unfold gel
  rw [e]
  rfl

theorem whole_dot : dot_S8192x8192_S8192x4096_S8192x4096_1_0_0_1_n_n = DotDims.plain 8192 8192 4096 := rfl

theorem whole_apply (X : Vec Ideal S8192x8192 .bf16) (W : Vec Ideal S8192x4096 .bf16) (r : Fin 8192) (l : Fin 4096) :
    whole X W (ix2 r l) = ∑ k : Fin 8192, (X (ix2 r k) * W (ix2 k l) : EReal) := by
  unfold whole
  rw [whole_dot]
  exact StackMember.dotGeneral_plain_apply none _ _ r l

/-- A sum over 8192 places is a sum over 32 runs of 256. -/
theorem sum_runs (f : Fin 8192 → EReal) :
    ∑ k, f k = ∑ e : Fin 32, ∑ k : Fin 256, f ⟨e.val * 256 + k.val, by omega⟩ := by
  rw [← Equiv.sum_comp (finProdFinEquiv (m := 32) (n := 256)) f, Fintype.sum_prod_type]
  refine Finset.sum_congr rfl fun e _ => Finset.sum_congr rfl fun k _ => congrArg f (Fin.ext ?_)
  show k.val + 256 * e.val = e.val * 256 + k.val
  omega

/-- The shares of all devices add up to the reference's product. -/
theorem shares (A : Ins Ideal) (X : Vec Ideal S8192x8192 .bf16) (W : Vec Ideal S8192x4096 .bf16)
    (hx : ∀ c : Dev KernelIdeal.nD, A.x c = Layout.block ⟨2, ![8192, 256]⟩ ⟨2, ![8192, 8192]⟩ 1 32 c X)
    (hw : ∀ c : Dev KernelIdeal.nD, A.w c = Layout.block ⟨2, ![256, 4096]⟩ ⟨2, ![8192, 4096]⟩ 0 32 c W)
    (c : Dev KernelIdeal.nD) (r : Fin 256) (l : Fin 4096) (R : Fin 8192) (hR : R.val = c.val * 256 + r.val) :
    ∑ e, share A c e r l = whole X W (ix2 R l) := by
  rw [whole_apply, sum_runs]
  refine Finset.sum_congr rfl fun e _ => Finset.sum_congr rfl fun k _ => ?_
  rw [hx, hw]
  refine congrArg₂ (fun a b : EReal => a * b) (congrArg X (funext fun a => Fin.ext ?_)) (congrArg W (funext fun a => Fin.ext ?_))
  · match a with
    | ⟨0, _⟩ => show 256 * c.val + r.val = R.val; omega
    | ⟨1, _⟩ => rfl
  · match a with
    | ⟨0, _⟩ => rfl
    | ⟨1, _⟩ => rfl

/-- Device `c`'s result is block `c` of the reference's. -/
theorem result_block (A : Ins Ideal) (X : Vec Ideal S8192x8192 .bf16) (W : Vec Ideal S8192x4096 .bf16)
    (hx : ∀ c : Dev KernelIdeal.nD, A.x c = Layout.block ⟨2, ![8192, 256]⟩ ⟨2, ![8192, 8192]⟩ 1 32 c X)
    (hw : ∀ c : Dev KernelIdeal.nD, A.w c = Layout.block ⟨2, ![256, 4096]⟩ ⟨2, ![8192, 4096]⟩ 0 32 c W)
    (c : Dev KernelIdeal.nD) :
    joined (outLo A c) (outHi A c) = Layout.block ⟨2, ![256, 4096]⟩ ⟨2, ![8192, 4096]⟩ 0 32 c (act (whole X W)) := by
  funext i
  obtain ⟨r, l, rfl⟩ : ∃ (r : Fin 256) (l : Fin 4096), i = ix2 r l := ⟨i 0, i 1, eq_ix2 i⟩
  have hc : c.val < 32 := c.isLt
  refine (joined_sum A c r l).trans ?_
  rw [Layout.block_apply, act_apply, shares A X W hx hw c r l ⟨c.val * 256 + r.val, by omega⟩ rfl]
  refine congrArg (fun j => gel (whole X W j)) (funext fun a => Fin.ext ?_)
  match a with
  | ⟨0, _⟩ => rfl
  | ⟨1, _⟩ => rfl

end Cert.Ring

end
-- ==== Proof.Same.lean ====
/-
  The printed program and its idealization are one text: what one runs is what the other runs, over any floats.
-/
module

public import proofs.«01_k».proof.Proof.Gen.Kernel
public import proofs.«01_k».proof.Proof.Gen.KernelIdeal

@[expose] public section

noncomputable section

namespace Cert.Same

open Idealize.ShloMosaic

variable {F : FTy → Type} [FloatOps F]

set_option maxHeartbeats 0 in
/-- The kernels' bodies are the same. -/
theorem part_eq : @Cert.Kernel.k0_part101 F _ _ = @Cert.KernelIdeal.k0_part101 F _ _ := rfl

theorem body_eq : @Cert.Kernel.cc0_body F _ _ = @Cert.KernelIdeal.cc0_body F _ _ := by
  unfold Cert.Kernel.cc0_body Cert.KernelIdeal.cc0_body
  rw [part_eq]
  rfl

/-- So are the tables that call them. -/
theorem defs₀_eq : @Cert.Kernel.defs₀ F _ _ = @Cert.KernelIdeal.defs₀ F _ _ := by
  unfold Cert.Kernel.defs₀ Cert.KernelIdeal.defs₀
  rw [body_eq]
  refine congrArg Defs.onTc (funext fun i => ?_)
  match i with
  | ⟨0, _⟩ =>
    funext ts
    obtain ⟨t, s⟩ := ts
    rfl

theorem defs_eq : @Cert.Kernel.defs F _ _ = @Cert.KernelIdeal.defs F _ _ := by
  unfold Cert.Kernel.defs Cert.KernelIdeal.defs
  rw [defs₀_eq]
  rfl

set_option maxHeartbeats 0 in
/-- The host code around them is the same. -/
theorem main_eq : @Cert.Kernel.main F _ = @Cert.KernelIdeal.main F _ := rfl

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel runs, its arguments end as they were and every counter ends at zero. The printed program and its
    idealization are one text, whose run is proved over any floats. -/
theorem frame_kernel : Cert.quiescent_Kernel := fun m ρ _ => by
  have h := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun _ h => ⟨fun c => (h.1 c).2, h.2⟩) (Cert.Ring.run_main (F := Bits) m ρ)
  rw [Cert.Same.defs_eq, Cert.Same.main_eq]
  exact h

theorem frame_kernelIdeal : Cert.quiescent_KernelIdeal := fun m ρ _ =>
  (θ_run Cert.KernelIdeal.defs _ _).mono (fun _ h => ⟨fun c => (h.1 c).2, h.2⟩) (Cert.Ring.run_main (F := Ideal) m ρ)

/-- The reference declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of the reference's result. -/
theorem value : Cert.algebraic_KernelIdeal_ReferenceIdeal := fun m ρ m' ρ' _ hin =>
  ⟨Cert.Ring.act (Cert.Ring.whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))),
    (θ_run Cert.KernelIdeal.defs _ _).mono
      (fun _ h c => ⟨(h.1 c).1.trans (Cert.Ring.result_block (Cert.Ring.ins m) _ _ (fun c => (hin c).1) (fun c => (hin c).2) c), (h.1 c).2⟩)
      (Cert.Ring.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
